-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x16 : Shape := ⟨2, ![1024, 16]⟩
abbrev S1000000x16 : Shape := ⟨2, ![1000000, 16]⟩
abbrev S_ : Shape := ⟨0, ![]⟩
abbrev S1024 : Shape := ⟨1, ![1024]⟩
abbrev S1024x1 : Shape := ⟨2, ![1024, 1]⟩
abbrev S1000000 : Shape := ⟨1, ![1000000]⟩
abbrev S1000000x1 : Shape := ⟨2, ![1000000, 1]⟩
abbrev S16x1000000 : Shape := ⟨2, ![16, 1000000]⟩
abbrev S16x8192 : Shape := ⟨2, ![16, 8192]⟩
abbrev S1024x128 : Shape := ⟨2, ![1024, 128]⟩
abbrev S16x128 : Shape := ⟨2, ![16, 128]⟩
abbrev S64 : Shape := ⟨1, ![64]⟩
abbrev S1x64 : Shape := ⟨2, ![1, 64]⟩
abbrev S1024x64 : Shape := ⟨2, ![1024, 64]⟩
abbrev S65536 : Shape := ⟨1, ![65536]⟩
abbrev S65536x1 : Shape := ⟨2, ![65536, 1]⟩
abbrev S65536x16 : Shape := ⟨2, ![65536, 16]⟩
abbrev S16x65536 : Shape := ⟨2, ![16, 65536]⟩
abbrev S128x16 : Shape := ⟨2, ![128, 16]⟩
abbrev S128x1 : Shape := ⟨2, ![128, 1]⟩
abbrev S128x8192 : Shape := ⟨2, ![128, 8192]⟩
abbrev S128 : Shape := ⟨1, ![128]⟩
abbrev S16x2048 : Shape := ⟨2, ![16, 2048]⟩
abbrev S1024x2048 : Shape := ⟨2, ![1024, 2048]⟩

abbrev nBuf : Space → Nat
  | .hbm => 118
  | .vmem => 27
  | .smem => 0
  | _ => 0

abbrev bufTy : (tb : Table) → Fin (tcTables nBuf tb) → BufTy
  | .hbm, ⟨0, _⟩ => ⟨S1024x16, .f32⟩
  | .hbm, ⟨1, _⟩ => ⟨S1000000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x16, .f32⟩
  | .hbm, ⟨11, _⟩ => ⟨S1024x16, .f32⟩
  | .hbm, ⟨12, _⟩ => ⟨S1024x16, .bf16⟩
  | .hbm, ⟨13, _⟩ => ⟨S1000000x16, .f32⟩
  | .hbm, ⟨14, _⟩ => ⟨S_, .f32⟩
  | .hbm, ⟨15, _⟩ => ⟨S1000000, .f32⟩
  | .hbm, ⟨16, _⟩ => ⟨S1000000x1, .f32⟩
  | .hbm, ⟨17, _⟩ => ⟨S1000000x1, .f32⟩
  | .hbm, ⟨18, _⟩ => ⟨S_, .f32⟩
  | .hbm, ⟨19, _⟩ => ⟨S1000000x1, .f32⟩
  | .hbm, ⟨20, _⟩ => ⟨S1000000x1, .f32⟩
  | .hbm, ⟨21, _⟩ => ⟨S1000000x16, .f32⟩
  | .hbm, ⟨22, _⟩ => ⟨S1000000x16, .f32⟩
  | .hbm, ⟨23, _⟩ => ⟨S1000000x16, .bf16⟩
  | .hbm, ⟨24, _⟩ => ⟨S16x1000000, .bf16⟩
  | .hbm, ⟨25, _⟩ => ⟨S1024x1, .f32⟩
  | .hbm, ⟨26, _⟩ => ⟨S1024x1, .i32⟩
  | .hbm, ⟨27, _⟩ => ⟨S1024x1, .i32⟩
  | .hbm, ⟨28, _⟩ => ⟨S_, .i32⟩
  | .hbm, ⟨29, _⟩ => ⟨S_, .i32⟩
  | .hbm, ⟨30, _⟩ => ⟨S1024x1, .i32⟩
  | .hbm, ⟨31, _⟩ => ⟨S1024x1, .i32⟩
  | .hbm, ⟨32, _⟩ => ⟨S1024x1, .i32⟩
  | .hbm, ⟨33, _⟩ => ⟨S_, .i32⟩
  | .hbm, ⟨34, _⟩ => ⟨S1024x1, .i32⟩
  | .hbm, ⟨35, _⟩ => ⟨S1024x1, .i1⟩
  | .hbm, ⟨36, _⟩ => ⟨S1024x1, .i32⟩
  | .hbm, ⟨37, _⟩ => ⟨S1024x1, .i32⟩
  | .hbm, ⟨38, _⟩ => ⟨S_, .i32⟩
  | .hbm, ⟨39, _⟩ => ⟨S1024x1, .i32⟩
  | .hbm, ⟨40, _⟩ => ⟨S1024x1, .i1⟩
  | .hbm, ⟨41, _⟩ => ⟨S1024x1, .i1⟩
  | .hbm, ⟨42, _⟩ => ⟨S_, .i32⟩
  | .hbm, ⟨43, _⟩ => ⟨S1024x1, .i32⟩
  | .hbm, ⟨44, _⟩ => ⟨S1024x1, .i32⟩
  | .hbm, ⟨45, _⟩ => ⟨S1024x1, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1024x1, .i32⟩
  | .hbm, ⟨53, _⟩ => ⟨S1024x1, .i32⟩
  | .hbm, ⟨54, _⟩ => ⟨S_, .i32⟩
  | .hbm, ⟨55, _⟩ => ⟨S1024x1, .i32⟩
  | .hbm, ⟨56, _⟩ => ⟨S1024x1, .i1⟩
  | .hbm, ⟨57, _⟩ => ⟨S_, .i32⟩
  | .hbm, ⟨58, _⟩ => ⟨S1024x1, .i32⟩
  | .hbm, ⟨59, _⟩ => ⟨S1024x1, .i1⟩
  | .hbm, ⟨60, _⟩ => ⟨S_, .i32⟩
  | .hbm, ⟨61, _⟩ => ⟨S_, .i1⟩
  | .hbm, ⟨62, _⟩ => ⟨S1024x1, .i1⟩
  | .hbm, ⟨63, _⟩ => ⟨S1024x1, .i1⟩
  | .hbm, ⟨64, _⟩ => ⟨S1024x1, .i1⟩
  | .hbm, ⟨65, _⟩ => ⟨S1024x1, .i32⟩
  | .hbm, ⟨66, _⟩ => ⟨S1024x1, .i32⟩
  | .hbm, ⟨67, _⟩ => ⟨S1024x1, .i32⟩
  | .hbm, ⟨68, _⟩ => ⟨S_, .i32⟩
  | .hbm, ⟨69, _⟩ => ⟨S1024x1, .i32⟩
  | .hbm, ⟨70, _⟩ => ⟨S1024x1, .i32⟩
  | .hbm, ⟨71, _⟩ => ⟨S1024x1, .i32⟩
  | .hbm, ⟨72, _⟩ => ⟨S64, .i32⟩
  | .hbm, ⟨73, _⟩ => ⟨S1x64, .i32⟩
  | .hbm, ⟨74, _⟩ => ⟨S_, .i32⟩
  | .hbm, ⟨75, _⟩ => ⟨S1x64, .i32⟩
  | .hbm, ⟨76, _⟩ => ⟨S1x64, .i32⟩
  | .hbm, ⟨77, _⟩ => ⟨S1024x64, .i32⟩
  | .hbm, ⟨78, _⟩ => ⟨S1024x64, .i32⟩
  | .hbm, ⟨79, _⟩ => ⟨S1024x64, .i32⟩
  | .hbm, ⟨80, _⟩ => ⟨S_, .i32⟩
  | .hbm, ⟨81, _⟩ => ⟨S1024x64, .i32⟩
  | .hbm, ⟨82, _⟩ => ⟨S1024x64, .i32⟩
  | .hbm, ⟨83, _⟩ => ⟨S65536, .i32⟩
  | .hbm, ⟨84, _⟩ => ⟨S65536x1, .i32⟩
  | .hbm, ⟨85, _⟩ => ⟨S65536x16, .f32⟩
  | .hbm, ⟨86, _⟩ => ⟨S65536x16, .f32⟩
  | .hbm, ⟨87, _⟩ => ⟨S_, .f32⟩
  | .hbm, ⟨88, _⟩ => ⟨S65536, .f32⟩
  | .hbm, ⟨89, _⟩ => ⟨S65536x1, .f32⟩
  | .hbm, ⟨90, _⟩ => ⟨S65536x1, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x16, .f32⟩
  | .hbm, ⟨95, _⟩ => ⟨S65536x16, .f32⟩
  | .hbm, ⟨96, _⟩ => ⟨S65536x16, .bf16⟩
  | .hbm, ⟨97, _⟩ => ⟨S16x65536, .bf16⟩
  | .hbm, ⟨98, _⟩ => ⟨S1024x1, .i32⟩
  | .hbm, ⟨99, _⟩ => ⟨S1024x1, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .i1⟩
  | .hbm, ⟨109, _⟩ => ⟨S_, .i32⟩
  | .hbm, ⟨110, _⟩ => ⟨S1024, .f32⟩
  | .hbm, ⟨111, _⟩ => ⟨S1024, .i32⟩
  | .hbm, ⟨112, _⟩ => ⟨S1024, .f32⟩
  | .hbm, ⟨113, _⟩ => ⟨S1024, .i32⟩
  | .hbm, ⟨114, _⟩ => ⟨S1024x1, .f32⟩
  | .hbm, ⟨115, _⟩ => ⟨S1024x1, .i32⟩
  | .hbm, ⟨116, _⟩ => ⟨S1024, .f32⟩
  | .hbm, ⟨117, _⟩ => ⟨S1024, .i32⟩
  | .local _ .vmem, ⟨0, _⟩ => ⟨S1024x16, .bf16⟩
  | .local _ .vmem, ⟨1, _⟩ => ⟨S16x8192, .bf16⟩
  | .local _ .vmem, ⟨2, _⟩ => ⟨S16x8192, .bf16⟩
  | .local _ .vmem, ⟨3, _⟩ => ⟨S1024x1, .f32⟩
  | .local _ .vmem, ⟨4, _⟩ => ⟨S1024x1, .i32⟩
  | .local _ .vmem, ⟨5, _⟩ => ⟨S1024x1, .i32⟩
  | .local _ .vmem, ⟨6, _⟩ => ⟨S1024x128, .f32⟩
  | .local _ .vmem, ⟨7, _⟩ => ⟨S1024x128, .i32⟩
  | .local _ .vmem, ⟨8, _⟩ => ⟨S128x16, .bf16⟩
  | .local _ .vmem, ⟨9, _⟩ => ⟨S128x16, .bf16⟩
  | .local _ .vmem, ⟨10, _⟩ => ⟨S16x8192, .bf16⟩
  | .local _ .vmem, ⟨11, _⟩ => ⟨S16x8192, .bf16⟩
  | .local _ .vmem, ⟨12, _⟩ => ⟨S128x1, .f32⟩
  | .local _ .vmem, ⟨13, _⟩ => ⟨S128x1, .f32⟩
  | .local _ .vmem, ⟨14, _⟩ => ⟨S128x1, .i32⟩
  | .local _ .vmem, ⟨15, _⟩ => ⟨S128x1, .i32⟩
  | .local _ .vmem, ⟨16, _⟩ => ⟨S128x1, .i32⟩
  | .local _ .vmem, ⟨17, _⟩ => ⟨S128x1, .i32⟩
  | .local _ .vmem, ⟨18, _⟩ => ⟨S128x1, .i32⟩
  | .local _ .vmem, ⟨19, _⟩ => ⟨S128x1, .i32⟩
  | .local _ .vmem, ⟨20, _⟩ => ⟨S1024x16, .bf16⟩
  | .local _ .vmem, ⟨21, _⟩ => ⟨S16x2048, .bf16⟩
  | .local _ .vmem, ⟨22, _⟩ => ⟨S16x2048, .bf16⟩
  | .local _ .vmem, ⟨23, _⟩ => ⟨S1024x1, .f32⟩
  | .local _ .vmem, ⟨24, _⟩ => ⟨S1024x1, .i32⟩
  | .local _ .vmem, ⟨25, _⟩ => ⟨S1024x2048, .f32⟩
  | .local _ .vmem, ⟨26, _⟩ => ⟨S1024x2048, .i32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_c : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_0 : Ref sig .tc := ⟨.hbm, 42, rfl⟩
abbrev main_call2_v12 : Ref sig .tc := ⟨.hbm, 43, rfl⟩
abbrev main_call2_v13 : Ref sig .tc := ⟨.hbm, 44, rfl⟩
abbrev main_v14 : Ref sig .tc := ⟨.hbm, 45, rfl⟩
abbrev main_c_1 : Ref sig .tc := ⟨.hbm, 46, rfl⟩
abbrev main_call3_v0 : Ref sig .tc := ⟨.hbm, 47, rfl⟩
abbrev main_call3_c : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_c_1 : Ref sig .tc := ⟨.hbm, 54, rfl⟩
abbrev main_call3_v5 : Ref sig .tc := ⟨.hbm, 55, rfl⟩
abbrev main_call3_v6 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_c_3 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_v15 : Ref sig .tc := ⟨.hbm, 67, rfl⟩
abbrev main_c_2 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_c_3 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_c_4 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_call4_v0 : Ref sig .tc := ⟨.hbm, 84, rfl⟩
abbrev main_v29 : Ref sig .tc := ⟨.hbm, 85, rfl⟩
abbrev main_call5_v0 : Ref sig .tc := ⟨.hbm, 86, rfl⟩
abbrev main_call5_cst : Ref sig .tc := ⟨.hbm, 87, rfl⟩
abbrev main_call5_v1 : Ref sig .tc := ⟨.hbm, 88, rfl⟩
abbrev main_call5_v2 : Ref sig .tc := ⟨.hbm, 89, rfl⟩
abbrev main_v30 : Ref sig .tc := ⟨.hbm, 90, rfl⟩
abbrev main_cst_5 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37_0 : Ref sig .tc := ⟨.hbm, 98, rfl⟩
abbrev main_v37_1 : Ref sig .tc := ⟨.hbm, 99, rfl⟩
abbrev main_c_6 : Ref sig .tc := ⟨.hbm, 100, rfl⟩
abbrev main_v38 : Ref sig .tc := ⟨.hbm, 101, rfl⟩
abbrev main_c_7 : Ref sig .tc := ⟨.hbm, 102, rfl⟩
abbrev main_v39 : Ref sig .tc := ⟨.hbm, 103, rfl⟩
abbrev main_c_8 : Ref sig .tc := ⟨.hbm, 104, rfl⟩
abbrev main_v40 : Ref sig .tc := ⟨.hbm, 105, rfl⟩
abbrev main_c_9 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44_0 : Ref sig .tc := ⟨.hbm, 110, rfl⟩
abbrev main_v44_1 : Ref sig .tc := ⟨.hbm, 111, rfl⟩
abbrev main_case0b0_v45 : Ref sig .tc := ⟨.hbm, 112, rfl⟩
abbrev main_case0b0_v46 : Ref sig .tc := ⟨.hbm, 113, rfl⟩
abbrev main_case0b1_v45_0 : Ref sig .tc := ⟨.hbm, 114, rfl⟩
abbrev main_case0b1_v45_1 : Ref sig .tc := ⟨.hbm, 115, rfl⟩
abbrev main_case0b1_v46 : Ref sig .tc := ⟨.hbm, 116, rfl⟩
abbrev main_case0b1_v47 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem3_0 : DmaSem sig := 22

abbrev nD : Nat := 1
abbrev τ : Topo := Topo.v7x

variable {F : FTy → Type} [FloatOps F]

abbrev grid0 : Pipeline.Grid := ⟨1, ![123], ![false]⟩

def k0_cond3 (i : grid0.Coords) : BitVec 1 :=
  let arg0 : BitVec 32 := BitVec.ofNat 32 (i 0).val
  let c122_i32_3 : BitVec 32 := 122#32
  let v8 : BitVec 1 := Scalar.cmpi .eq arg0 c122_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![489], ![false]⟩

def k2_cond3 (i : grid2.Coords) : BitVec 1 :=
  let arg0 : BitVec 32 := BitVec.ofNat 32 (i 0).val
  let c488_i32_5 : BitVec 32 := 488#32
  let v11 : BitVec 1 := Scalar.cmpi .eq arg0 c488_i32_5
  let v12 : BitVec 32 := Scalar.extui v11
  let c0_i32_6 : BitVec 32 := 0#32
  let v13 : BitVec 1 := Scalar.cmpi .ne v12 c0_i32_6
  v13

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x16 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S1024x16 : Shape := ⟨2, ![1024, 16]⟩
abbrev S1000000x16 : Shape := ⟨2, ![1000000, 16]⟩
abbrev S_ : Shape := ⟨0, ![]⟩
abbrev S1024 : Shape := ⟨1, ![1024]⟩
abbrev S1024x1 : Shape := ⟨2, ![1024, 1]⟩
abbrev S1000000 : Shape := ⟨1, ![1000000]⟩
abbrev S1000000x1 : Shape := ⟨2, ![1000000, 1]⟩
abbrev S16x1000000 : Shape := ⟨2, ![16, 1000000]⟩
abbrev S1024x1000000 : Shape := ⟨2, ![1024, 1000000]⟩

abbrev nBuf : Space → Nat
  | .hbm => 31
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S1000000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x16, .f32⟩
  | .hbm, ⟨11, _⟩ => ⟨S1024x16, .f32⟩
  | .hbm, ⟨12, _⟩ => ⟨S1000000x16, .f32⟩
  | .hbm, ⟨13, _⟩ => ⟨S_, .f32⟩
  | .hbm, ⟨14, _⟩ => ⟨S1000000, .f32⟩
  | .hbm, ⟨15, _⟩ => ⟨S1000000x1, .f32⟩
  | .hbm, ⟨16, _⟩ => ⟨S1000000x1, .f32⟩
  | .hbm, ⟨17, _⟩ => ⟨S_, .f32⟩
  | .hbm, ⟨18, _⟩ => ⟨S1000000x1, .f32⟩
  | .hbm, ⟨19, _⟩ => ⟨S1000000x1, .f32⟩
  | .hbm, ⟨20, _⟩ => ⟨S1000000x16, .f32⟩
  | .hbm, ⟨21, _⟩ => ⟨S1000000x16, .f32⟩
  | .hbm, ⟨22, _⟩ => ⟨S16x1000000, .f32⟩
  | .hbm, ⟨23, _⟩ => ⟨S1024x1000000, .f32⟩
  | .hbm, ⟨24, _⟩ => ⟨S_, .f32⟩
  | .hbm, ⟨25, _⟩ => ⟨S1024, .f32⟩
  | .hbm, ⟨26, _⟩ => ⟨S1024x1000000, .i32⟩
  | .hbm, ⟨27, _⟩ => ⟨S_, .f32⟩
  | .hbm, ⟨28, _⟩ => ⟨S_, .i32⟩
  | .hbm, ⟨29, _⟩ => ⟨S1024, .f32⟩
  | .hbm, ⟨30, _⟩ => ⟨S1024, .i32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_call2_v0 : Ref sig .tc := ⟨.hbm, 26, rfl⟩
abbrev main_call2_cst : Ref sig .tc := ⟨.hbm, 27, rfl⟩
abbrev main_call2_c : Ref sig .tc := ⟨.hbm, 28, rfl⟩
abbrev main_call2_v1_0 : Ref sig .tc := ⟨.hbm, 29, rfl⟩
abbrev main_v13 : Ref sig .tc := ⟨.hbm, 30, rfl⟩

abbrev nD : Nat := 1
abbrev τ : Topo := Topo.v7x

variable {F : FTy → Type} [FloatOps F]
-- ==== Proof.BodyLib.lean ====
/- What the bodies' triples share. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.VecWindow

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

/-- The kernel's variants: none. -/
abbrev 𝒱₀ : Variants := Variants.none

/-- The offsets of a whole access are all zero. -/
theorem off00 : (![0, 0] : Fin 2 → Nat) = fun _ => 0 := funext fun a => by fin_cases a <;> rfl

/-- A list of stores whose last is of the whole buffer leaves that store's words. -/
theorem writes_whole_cons {Val : EltTy → Type} (b : Ref sig .tc) {off : Fin b.ty.shape.rank → Nat}
    (inb : ∀ a, off a + b.ty.shape.size a ≤ b.ty.shape.size a) (f w : b.ty.Contents Val) (L : List (View.Piece Val b.ty.shape b.ty.elt)) :
    (Memref.whole b : Memref sig .tc _ _ _).view.writes Val f (⟨Rect.unit off b.ty.shape.size inb, w⟩ :: L) = w := by
  have h := View.read_writes_full (Val := Val) (Memref.whole b : Memref sig .tc _ _ _).view f inb w L
  simpa only [Memref.view_whole, View.read_whole] using h

end Cert.KProof

end
-- ==== Proof.BodyRead.lean ====
/- A store of a whole buffer, read back. -/
module

public import proofs.«01_k».proof.Proof.BodyLib

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

/-- A store of a whole buffer is read back. -/
theorem read_write_full {Val : EltTy → Type} {κ : Kind} {sp : Space} {s : Shape} {e : EltTy} (m : Memref sig κ sp s e) {off : Fin s.rank → Nat}
    (inb : ∀ a, off a + s.size a ≤ s.size a) (f : m.view.ty.Contents Val) (w : (Rect.unit off s.size inb).shape.Idx → Val e) :
    m.view.read Val (View.write Val (m.access (Rect.unit off s.size inb)) f w Finset.univ) = w :=
  View.read_writes_full (Val := Val) m.view f inb w []

end Cert.KProof

end
-- ==== Proof.Body0.lean ====
/- The body of the first phase: what one grid point leaves in the scratch and in the results. -/
module

public import proofs.«01_k».proof.Proof.BodyRead

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

/-- Chunk `n` of the block: its 128 columns from `128 n`. -/
theorem chunk_inb (n : Fin 64) : ∀ a, (![0, 128 * n.val] : Fin 2 → Nat) a + S16x128.size a ≤ S16x8192.size a := by
  revert n; decide +kernel
@[inherit_doc chunk_inb]
def chunk (X1 : FVec F S16x8192 .bf16) (n : Fin 64) : FVec F S16x128 .bf16 :=
  VecWindow.window (s := S16x8192) X1 ![0, 128 * n.val] S16x128.size (chunk_inb n)

/-- The greatest of the even chunks' scores, as far as the text keeps it apart. -/
def evenMax (v4 : FVec F S1024x16 .bf16) (g : Fin 64 → FVec F S16x128 .bf16) : FVec F S1024x128 .f32 :=
  have v36 := k0_pay8 v4 (g 0) (g 2) (g 4) (g 6)
  have v40 := k0_pay9 v4 (g 1) (g 3) (g 5) (g 7)
  have v43 := k0_pay10 v4 (g 8)
  have v72 := k0_pay11 v4 v40 (g 9) (g 11) (g 13) (g 15)
  have v76 := k0_pay12 v4 v36 v43 (g 10) (g 12) (g 14) (g 16)
  have v77 := g 17
  have v108 := k0_pay13 v4 v76 (g 18) (g 20) (g 22) (g 24)
  have v112 := k0_pay14 v4 v72 v77 (g 19) (g 21) (g 23) (g 25)
  have v140 := k0_pay15 v4 v108 (g 26) (g 28) (g 30) (g 32)
  have v144 := k0_pay16 v4 v112 (g 27) (g 29) (g 31) (g 33)
  have v146 := k0_pay17 (g 34)
  have v176 := k0_pay18 v4 v144 (g 35) (g 37) (g 39) (g 41)
  have v180 := k0_pay19 v4 v140 v146 (g 36) (g 38) (g 40) (g 42)
  have v208 := k0_pay20 v4 v176 (g 43) (g 45) (g 47) (g 49)
  have v212 := k0_pay21 v4 v180 (g 44) (g 46) (g 48) (g 50)
  have v214 := k0_pay22 (g 51)
  have cst_108 := constant S1024x128 .f32 0x00000000#32
  have v244 := k0_pay23 v4 v212 (g 52) (g 54) (g 56) (g 58)
  have v248 := k0_pay24 v4 v208 v214 cst_108 (g 53) (g 55) (g 57) (g 59)
  v244

/-- The greatest of the odd chunks' scores, likewise. -/
def oddMax (v4 : FVec F S1024x16 .bf16) (g : Fin 64 → FVec F S16x128 .bf16) : FVec F S1024x128 .f32 :=
  have v36 := k0_pay8 v4 (g 0) (g 2) (g 4) (g 6)
  have v40 := k0_pay9 v4 (g 1) (g 3) (g 5) (g 7)
  have v43 := k0_pay10 v4 (g 8)
  have v72 := k0_pay11 v4 v40 (g 9) (g 11) (g 13) (g 15)
  have v76 := k0_pay12 v4 v36 v43 (g 10) (g 12) (g 14) (g 16)
  have v77 := g 17
  have v108 := k0_pay13 v4 v76 (g 18) (g 20) (g 22) (g 24)
  have v112 := k0_pay14 v4 v72 v77 (g 19) (g 21) (g 23) (g 25)
  have v140 := k0_pay15 v4 v108 (g 26) (g 28) (g 30) (g 32)
  have v144 := k0_pay16 v4 v112 (g 27) (g 29) (g 31) (g 33)
  have v146 := k0_pay17 (g 34)
  have v176 := k0_pay18 v4 v144 (g 35) (g 37) (g 39) (g 41)
  have v180 := k0_pay19 v4 v140 v146 (g 36) (g 38) (g 40) (g 42)
  have v208 := k0_pay20 v4 v176 (g 43) (g 45) (g 47) (g 49)
  have v212 := k0_pay21 v4 v180 (g 44) (g 46) (g 48) (g 50)
  have v214 := k0_pay22 (g 51)
  have cst_108 := constant S1024x128 .f32 0x00000000#32
  have v244 := k0_pay23 v4 v212 (g 52) (g 54) (g 56) (g 58)
  have v248 := k0_pay24 v4 v208 v214 cst_108 (g 53) (g 55) (g 57) (g 59)
  v248

/-- The greatest of the last block's masked scores but the last chunk's. -/
def lastMax (v4 : FVec F S1024x16 .bf16) (g : Fin 64 → FVec F S16x128 .bf16) : FVec F S1024x128 .f32 :=
  have v11 := iota .tc S1024x128 32 [1] iota_S1024x128_d1_w32
  have v38 := k0_pay25 v4 (g 0) (g 1) (g 2)
  have v47 := k0_pay26 v4 (g 3)
  have v78 := k0_pay27 v4 v11 v38 v47 (g 4) (g 5) (g 6)
  have v82 := k0_pay28 v11
  have v84 := k0_pay29 (g 7)
  have cst_34 := constant S1024x128 .f32 0x00000000#32
  have v118 := k0_pay30 v4 v11 v78 v82 v84 cst_34 (g 8) (g 9) (g 10)
  have v122 := k0_pay31 v11
  have v158 := k0_pay32 v4 v11 v118 v122 (g 11) (g 12) (g 13) (g 14)
  have v160 := k0_pay33 v11
  have v188 := k0_pay34 v4 v11 v158 v160 (g 15) (g 16) (g 17)
  have v197 := k0_pay35 v4 v11 (g 18)
  have v228 := k0_pay36 v4 v11 v188 v197 (g 19) (g 20) (g 21)
  have v232 := k0_pay37 v11
  have v234 := k0_pay38 (g 22)
  have cst_94 := constant S1024x128 .f32 0x00000000#32
  have v268 := k0_pay39 v4 v11 v228 v232 v234 cst_94 (g 23) (g 24) (g 25)
  have v272 := k0_pay40 v11
  have v308 := k0_pay41 v4 v11 v268 v272 (g 26) (g 27) (g 28) (g 29)
  have v310 := k0_pay42 v11
  have v338 := k0_pay43 v4 v11 v308 v310 (g 30) (g 31) (g 32)
  have v347 := k0_pay44 v4 v11 (g 33)
  have v378 := k0_pay45 v4 v11 v338 v347 (g 34) (g 35) (g 36)
  have v382 := k0_pay46 v11
  have v384 := k0_pay47 (g 37)
  have cst_154 := constant S1024x128 .f32 0x00000000#32
  have v418 := k0_pay48 v4 v11 v378 v382 v384 cst_154 (g 38) (g 39) (g 40)
  have v422 := k0_pay49 v11
  have v458 := k0_pay50 v4 v11 v418 v422 (g 41) (g 42) (g 43) (g 44)
  have v460 := k0_pay51 v11
  have v488 := k0_pay52 v4 v11 v458 v460 (g 45) (g 46) (g 47)
  have v497 := k0_pay53 v4 v11 (g 48)
  have v528 := k0_pay54 v4 v11 v488 v497 (g 49) (g 50) (g 51)
  have v532 := k0_pay55 v11
  have v534 := k0_pay56 (g 52)
  have cst_214 := constant S1024x128 .f32 0x00000000#32
  have v568 := k0_pay57 v4 v11 v528 v532 v534 cst_214 (g 53) (g 54) (g 55)
  have v572 := k0_pay58 v11
  have v608 := k0_pay59 v4 v11 v568 v572 (g 56) (g 57) (g 58) (g 59)
  have v610 := k0_pay60 v11
  have v638 := k0_pay61 v4 v11 v608 v610 (g 60) (g 61) (g 62)
  have v647 := k0_pay62 v4 v11 (g 63)
  v638

/-- The last chunk's masked scores. -/
def lastChunk (v4 : FVec F S1024x16 .bf16) (g : Fin 64 → FVec F S16x128 .bf16) : FVec F S1024x128 .f32 :=
  have v11 := iota .tc S1024x128 32 [1] iota_S1024x128_d1_w32
  have v38 := k0_pay25 v4 (g 0) (g 1) (g 2)
  have v47 := k0_pay26 v4 (g 3)
  have v78 := k0_pay27 v4 v11 v38 v47 (g 4) (g 5) (g 6)
  have v82 := k0_pay28 v11
  have v84 := k0_pay29 (g 7)
  have cst_34 := constant S1024x128 .f32 0x00000000#32
  have v118 := k0_pay30 v4 v11 v78 v82 v84 cst_34 (g 8) (g 9) (g 10)
  have v122 := k0_pay31 v11
  have v158 := k0_pay32 v4 v11 v118 v122 (g 11) (g 12) (g 13) (g 14)
  have v160 := k0_pay33 v11
  have v188 := k0_pay34 v4 v11 v158 v160 (g 15) (g 16) (g 17)
  have v197 := k0_pay35 v4 v11 (g 18)
  have v228 := k0_pay36 v4 v11 v188 v197 (g 19) (g 20) (g 21)
  have v232 := k0_pay37 v11
  have v234 := k0_pay38 (g 22)
  have cst_94 := constant S1024x128 .f32 0x00000000#32
  have v268 := k0_pay39 v4 v11 v228 v232 v234 cst_94 (g 23) (g 24) (g 25)
  have v272 := k0_pay40 v11
  have v308 := k0_pay41 v4 v11 v268 v272 (g 26) (g 27) (g 28) (g 29)
  have v310 := k0_pay42 v11
  have v338 := k0_pay43 v4 v11 v308 v310 (g 30) (g 31) (g 32)
  have v347 := k0_pay44 v4 v11 (g 33)
  have v378 := k0_pay45 v4 v11 v338 v347 (g 34) (g 35) (g 36)
  have v382 := k0_pay46 v11
  have v384 := k0_pay47 (g 37)
  have cst_154 := constant S1024x128 .f32 0x00000000#32
  have v418 := k0_pay48 v4 v11 v378 v382 v384 cst_154 (g 38) (g 39) (g 40)
  have v422 := k0_pay49 v11
  have v458 := k0_pay50 v4 v11 v418 v422 (g 41) (g 42) (g 43) (g 44)
  have v460 := k0_pay51 v11
  have v488 := k0_pay52 v4 v11 v458 v460 (g 45) (g 46) (g 47)
  have v497 := k0_pay53 v4 v11 (g 48)
  have v528 := k0_pay54 v4 v11 v488 v497 (g 49) (g 50) (g 51)
  have v532 := k0_pay55 v11
  have v534 := k0_pay56 (g 52)
  have cst_214 := constant S1024x128 .f32 0x00000000#32
  have v568 := k0_pay57 v4 v11 v528 v532 v534 cst_214 (g 53) (g 54) (g 55)
  have v572 := k0_pay58 v11
  have v608 := k0_pay59 v4 v11 v568 v572 (g 56) (g 57) (g 58) (g 59)
  have v610 := k0_pay60 v11
  have v638 := k0_pay61 v4 v11 v608 v610 (g 60) (g 61) (g 62)
  have v647 := k0_pay62 v4 v11 (g 63)
  v647

/-- The first branch is taken at the first point only. -/
theorem first0 : ∀ x : Fin 123, Scalar.cmpi .ne (Scalar.extui (Scalar.cmpi .eq (BitVec.ofNat 32 x.val) 0#32) : BitVec 32) 0#32 = 1#1 ↔ x.val = 0 := by
  decide +kernel
/-- The second at every point but the last. -/
theorem below0 : ∀ x : Fin 123, Scalar.cmpi .ne (Scalar.extui (Scalar.cmpi .slt (BitVec.ofNat 32 x.val) 122#32) : BitVec 32) 0#32 = 1#1 ↔ x.val < 122 := by
  decide +kernel
/-- The third at the last point only. -/
theorem last0 : ∀ x : Fin 123, Scalar.cmpi .ne (Scalar.extui (Scalar.cmpi .eq (BitVec.ofNat 32 x.val) 122#32) : BitVec 32) 0#32 = 1#1 ↔ x.val = 122 := by
  decide +kernel

/-- The running maximum after a block, over `A` before it. -/
def updA (X0 : FVec F S1024x16 .bf16) (X1 : FVec F S16x8192 .bf16) (A : FVec F S1024x128 .f32) : FVec F S1024x128 .f32 :=
  k0_pay6 X0 (evenMax (k0_pay3 X0) (chunk X1)) (oddMax (k0_pay3 X0) (chunk X1)) (chunk X1 60) (chunk X1 61) (chunk X1 62) (chunk X1 63) A A
/-- The block in which each running maximum was met first, after block `i`. -/
def updI (i : grid0.Coords) (X0 : FVec F S1024x16 .bf16) (X1 : FVec F S16x8192 .bf16) (A : FVec F S1024x128 .f32) (I : IVec S1024x128 32) : IVec S1024x128 32 :=
  k0_pay7 i X0 (evenMax (k0_pay3 X0) (chunk X1)) (oddMax (k0_pay3 X0) (chunk X1)) (chunk X1 60) (chunk X1 61) (chunk X1 62) (chunk X1 63) A I
/-- The row maxima that the last block stores. -/
def outV (X0 : FVec F S1024x16 .bf16) (X1 : FVec F S16x8192 .bf16) (A : FVec F S1024x128 .f32) : FVec F S1024x1 .f32 :=
  k0_pay66 (lastMax (k0_pay3 X0) (chunk X1)) (lastChunk (k0_pay3 X0) (chunk X1)) A A
/-- The least coded place of each row maximum. -/
def outE (i : grid0.Coords) (X0 : FVec F S1024x16 .bf16) (X1 : FVec F S16x8192 .bf16) (A : FVec F S1024x128 .f32) (I : IVec S1024x128 32) : IVec S1024x1 32 :=
  k0_pay68 (BitVec.ofNat 32 (i 0).val) (lastMax (k0_pay3 X0) (chunk X1)) (lastChunk (k0_pay3 X0) (chunk X1)) A A I
/-- The number of lanes that attain each row maximum. -/
def outC (X0 : FVec F S1024x16 .bf16) (X1 : FVec F S16x8192 .bf16) (A : FVec F S1024x128 .f32) : IVec S1024x1 32 :=
  k0_pay69 (lastMax (k0_pay3 X0) (chunk X1)) (lastChunk (k0_pay3 X0) (chunk X1)) A A

set_option maxHeartbeats 4000000 in
/-- A point that is neither the first nor the last: the scratch is updated, the rest is kept. -/
theorem body0_mid (c : Dev nD) (E : Set ℕ) (i : grid0.Coords) (s0 : Fin 1) (s1 : Fin 2) (s2 s3 s4 : Fin 1)
    (h0 : (i 0).val ≠ 0) (h1 : (i 0).val < 122)
    (X0 : S1024x16.Idx → Elt F .bf16) (X1 : S16x8192.Idx → Elt F .bf16) (A : S1024x128.Idx → Elt F .f32) (I : S1024x128.Idx → Elt F .i32)
    (K : PUnit → sProp 𝕄) :
    iprop((owns (c : Thread nD τ) (stage0_0 s0) fullShare (X0) ∗ owns (c : Thread nD τ) (stage0_1 s1) fullShare (X1) ∗ owns (c : Thread nD τ) (Memref.whole cc0_scratch0) fullShare (A) ∗ owns (c : Thread nD τ) (Memref.whole cc0_scratch1) fullShare (I))
          ∗ (iprop(owns (c : Thread nD τ) (stage0_0 s0) fullShare (X0) ∗ owns (c : Thread nD τ) (stage0_1 s1) fullShare (X1) ∗ owns (c : Thread nD τ) (Memref.whole cc0_scratch0) fullShare (updA X0 X1 A) ∗ owns (c : Thread nD τ) (Memref.whole cc0_scratch1) fullShare (updI i X0 X1 A I)) -∗ K ⟨⟩))
      ⊢ wp frame (wpE (defs₀ (F := F)) 𝒱₀ c none) E
          (cc0__phase1_body i (stage0_0 s0) (hstage0_0 s0) (stage0_1 s1) (hstage0_1 s1) (stage0_2 s2) (hstage0_2 s2) (stage0_3 s3) (hstage0_3 s3)
            (stage0_4 s4) (hstage0_4 s4) (Memref.whole cc0_scratch0) (Memref.isWhole_whole _) (Memref.whole cc0_scratch1) (Memref.isWhole_whole _)) K := by
  have e1 := mt (first0 (i 0)).mp h0
  have e2 := (below0 (i 0)).mpr h1
  have e3 : ¬ (k0_cond3 i = 1#1) := mt (last0 (i 0)).mp (by omega)
  unfold owns
  simp only [cc0__phase1_body_eq_skeleton]; unfold cc0__phase1_body_skel
  simp only [e1, e2, e3, dite_true, dite_false, reduceDIte, Prog.lift, Prog.bind_op, Prog.bind_ret, Prog.pure_eq_ret]
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret]
  iintro ⟨⟨⟨%f0, %hf0, H0⟩, ⟨%f1, %hf1, H1⟩, ⟨%f2, %hf2, H2⟩, ⟨%f3, %hf3, H3⟩⟩, Hk⟩
  sl_steps
  iapply Hk
  have e0 : View.readAt (Elt F) (stage0_0 s0).view (Rect.unit ![0, 0] ![1024, 16] inb_S1024x16_S1024x16_0_0).toLoadRect f0 = (stage0_0 s0).view.read (Elt F) f0 := View.readAt_full _ _ _
  have ea : View.readAt (Elt F) (Memref.whole cc0_scratch0).view (Rect.unit ![0, 0] ![1024, 128] inb_S1024x128_S1024x128_0_0).toLoadRect f2 = (Memref.whole cc0_scratch0).view.read (Elt F) f2 := View.readAt_full _ _ _
  have ei : View.readAt (Elt F) (Memref.whole cc0_scratch1).view (Rect.unit ![0, 0] ![1024, 128] inb_S1024x128_S1024x128_0_0).toLoadRect f3 = (Memref.whole cc0_scratch1).view.read (Elt F) f3 := View.readAt_full _ _ _
  rw [e0, ea, ei]
  subst hf0 hf1 hf2 hf3
  isplitl [H0]
  · iexists f0; isplitr; · ipureintro; rfl
    iexact H0
  isplitl [H1]
  · iexists f1; isplitr; · ipureintro; rfl
    iexact H1
  isplitl [H2]
  · iexists _; isplitr; swap
    · iexact H2
    · ipureintro
      refine (read_write_full (Memref.whole cc0_scratch0) inb_S1024x128_S1024x128_0_0 f2 _).trans ?_
      rfl
  · iexists _; isplitr; swap
    · iexact H3
    · ipureintro
      refine (read_write_full (Memref.whole cc0_scratch1) inb_S1024x128_S1024x128_0_0 f3 _).trans ?_
      rfl

end Cert.KProof

end
-- ==== Proof.Body0First.lean ====
/- The body of the first phase: what one grid point leaves in the scratch and in the results. -/
module

public import proofs.«01_k».proof.Proof.Body0

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

set_option maxHeartbeats 4000000 in
/-- The first point: the scratch is set, then updated. -/
theorem body0_first (c : Dev nD) (E : Set ℕ) (i : grid0.Coords) (s0 : Fin 1) (s1 : Fin 2) (s2 s3 s4 : Fin 1)
    (h0 : (i 0).val = 0)
    (X0 : S1024x16.Idx → Elt F .bf16) (X1 : S16x8192.Idx → Elt F .bf16) (A : S1024x128.Idx → Elt F .f32) (I : S1024x128.Idx → Elt F .i32)
    (K : PUnit → sProp 𝕄) :
    iprop((owns (c : Thread nD τ) (stage0_0 s0) fullShare (X0) ∗ owns (c : Thread nD τ) (stage0_1 s1) fullShare (X1) ∗ owns (c : Thread nD τ) (Memref.whole cc0_scratch0) fullShare (A) ∗ owns (c : Thread nD τ) (Memref.whole cc0_scratch1) fullShare (I))
          ∗ (iprop(owns (c : Thread nD τ) (stage0_0 s0) fullShare (X0) ∗ owns (c : Thread nD τ) (stage0_1 s1) fullShare (X1) ∗ owns (c : Thread nD τ) (Memref.whole cc0_scratch0) fullShare (updA X0 X1 (k0_pay1 (F := F))) ∗ owns (c : Thread nD τ) (Memref.whole cc0_scratch1) fullShare (updI i X0 X1 (k0_pay1 (F := F)) k0_pay2)) -∗ K ⟨⟩))
      ⊢ wp frame (wpE (defs₀ (F := F)) 𝒱₀ c none) E
          (cc0__phase1_body i (stage0_0 s0) (hstage0_0 s0) (stage0_1 s1) (hstage0_1 s1) (stage0_2 s2) (hstage0_2 s2) (stage0_3 s3) (hstage0_3 s3)
            (stage0_4 s4) (hstage0_4 s4) (Memref.whole cc0_scratch0) (Memref.isWhole_whole _) (Memref.whole cc0_scratch1) (Memref.isWhole_whole _)) K := by
  have e1 := (first0 (i 0)).mpr h0
  have e2 := (below0 (i 0)).mpr (by omega)
  have e3 : ¬ (k0_cond3 i = 1#1) := mt (last0 (i 0)).mp (by omega)
  unfold owns
  simp only [cc0__phase1_body_eq_skeleton]; unfold cc0__phase1_body_skel
  simp only [e1, e2, e3, dite_true, dite_false, reduceDIte, Prog.lift, Prog.bind_op, Prog.bind_ret, Prog.pure_eq_ret]
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret]
  iintro ⟨⟨⟨%f0, %hf0, H0⟩, ⟨%f1, %hf1, H1⟩, ⟨%f2, %hf2, H2⟩, ⟨%f3, %hf3, H3⟩⟩, Hk⟩
  sl_steps
  iapply Hk
  have e0 : View.readAt (Elt F) (stage0_0 s0).view (Rect.unit ![0, 0] ![1024, 16] inb_S1024x16_S1024x16_0_0).toLoadRect f0 = (stage0_0 s0).view.read (Elt F) f0 := View.readAt_full _ _ _
  have ea : View.readAt (Elt F) (Memref.whole cc0_scratch0).view (Rect.unit ![0, 0] ![1024, 128] inb_S1024x128_S1024x128_0_0).toLoadRect
      (View.write (Elt F) ((Memref.whole cc0_scratch0).access (Rect.unit ![0, 0] ![1024, 128] inb_S1024x128_S1024x128_0_0)) f2 (k0_pay1 (F := F)) Finset.univ)
      = k0_pay1 (F := F) := (View.readAt_full _ _ _).trans (read_write_full (Memref.whole cc0_scratch0) inb_S1024x128_S1024x128_0_0 f2 _)
  have ei : View.readAt (Elt F) (Memref.whole cc0_scratch1).view (Rect.unit ![0, 0] ![1024, 128] inb_S1024x128_S1024x128_0_0).toLoadRect
      (View.write (Elt F) ((Memref.whole cc0_scratch1).access (Rect.unit ![0, 0] ![1024, 128] inb_S1024x128_S1024x128_0_0)) f3 k0_pay2 Finset.univ)
      = k0_pay2 := (View.readAt_full _ _ _).trans (read_write_full (Memref.whole cc0_scratch1) inb_S1024x128_S1024x128_0_0 f3 _)
  rw [e0, ea, ei]
  subst hf0 hf1 hf2 hf3
  isplitl [H0]
  · iexists f0; isplitr; · ipureintro; rfl
    iexact H0
  isplitl [H1]
  · iexists f1; isplitr; · ipureintro; rfl
    iexact H1
  isplitl [H2]
  · iexists _; isplitr; swap
    · iexact H2
    · ipureintro
      refine (View.read_writes_full (Memref.whole cc0_scratch0).view _ _ _ _).trans ?_
      rfl
  · iexists _; isplitr; swap
    · iexact H3
    · ipureintro
      refine (View.read_writes_full (Memref.whole cc0_scratch1).view _ _ _ _).trans ?_
      rfl

end Cert.KProof

end
-- ==== Proof.Body0Last.lean ====
/- The body of the first phase: what one grid point leaves in the scratch and in the results. -/
module

public import proofs.«01_k».proof.Proof.Body0

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

set_option maxHeartbeats 4000000 in
/-- The last point: the results are stored and the scratch is kept. -/
theorem body0_last (c : Dev nD) (E : Set ℕ) (i : grid0.Coords) (s0 : Fin 1) (s1 : Fin 2) (s2 s3 s4 : Fin 1)
    (h0 : (i 0).val = 122)
    (X0 : S1024x16.Idx → Elt F .bf16) (X1 : S16x8192.Idx → Elt F .bf16) (A : S1024x128.Idx → Elt F .f32) (I : S1024x128.Idx → Elt F .i32)
    (X2 : S1024x1.Idx → Elt F .f32) (X3 X4 : S1024x1.Idx → Elt F .i32)
    (K : PUnit → sProp 𝕄) :
    iprop((owns (c : Thread nD τ) (stage0_0 s0) fullShare (X0) ∗ owns (c : Thread nD τ) (stage0_1 s1) fullShare (X1) ∗ owns (c : Thread nD τ) (Memref.whole cc0_scratch0) fullShare (A) ∗ owns (c : Thread nD τ) (Memref.whole cc0_scratch1) fullShare (I) ∗ owns (c : Thread nD τ) (stage0_2 s2) fullShare (X2) ∗ owns (c : Thread nD τ) (stage0_3 s3) fullShare (X3) ∗ owns (c : Thread nD τ) (stage0_4 s4) fullShare (X4))
          ∗ (iprop(owns (c : Thread nD τ) (stage0_0 s0) fullShare (X0) ∗ owns (c : Thread nD τ) (stage0_1 s1) fullShare (X1) ∗ owns (c : Thread nD τ) (Memref.whole cc0_scratch0) fullShare (A) ∗ owns (c : Thread nD τ) (Memref.whole cc0_scratch1) fullShare (I) ∗ owns (c : Thread nD τ) (stage0_2 s2) fullShare (outV X0 X1 A) ∗ owns (c : Thread nD τ) (stage0_3 s3) fullShare (outE i X0 X1 A I) ∗ owns (c : Thread nD τ) (stage0_4 s4) fullShare (outC X0 X1 A)) -∗ K ⟨⟩))
      ⊢ wp frame (wpE (defs₀ (F := F)) 𝒱₀ c none) E
          (cc0__phase1_body i (stage0_0 s0) (hstage0_0 s0) (stage0_1 s1) (hstage0_1 s1) (stage0_2 s2) (hstage0_2 s2) (stage0_3 s3) (hstage0_3 s3)
            (stage0_4 s4) (hstage0_4 s4) (Memref.whole cc0_scratch0) (Memref.isWhole_whole _) (Memref.whole cc0_scratch1) (Memref.isWhole_whole _)) K := by
  have e1 := mt (first0 (i 0)).mp (by omega)
  have e2 := mt (below0 (i 0)).mp (by omega)
  have e3 : (k0_cond3 i = 1#1) := (last0 (i 0)).mpr h0
  unfold owns
  simp only [cc0__phase1_body_eq_skeleton]; unfold cc0__phase1_body_skel
  simp only [e1, e2, e3, dite_true, dite_false, reduceDIte, Prog.lift, Prog.bind_op, Prog.bind_ret, Prog.pure_eq_ret]
  simp only [k0_part25_eq_skeleton]
  unfold k0_part25_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [Prog.lift, Prog.bind_op, Prog.bind_ret, Prog.pure_eq_ret]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  sl_steps
  iapply Hk
  have e0 : View.readAt (Elt F) (stage0_0 s0).view (Rect.unit ![0, 0] ![1024, 16] inb_S1024x16_S1024x16_0_0).toLoadRect f0 = (stage0_0 s0).view.read (Elt F) f0 := View.readAt_full _ _ _
  have ea : View.readAt (Elt F) (Memref.whole cc0_scratch0).view (Rect.unit ![0, 0] ![1024, 128] inb_S1024x128_S1024x128_0_0).toLoadRect f2 = (Memref.whole cc0_scratch0).view.read (Elt F) f2 := View.readAt_full _ _ _
  have ei : View.readAt (Elt F) (Memref.whole cc0_scratch1).view (Rect.unit ![0, 0] ![1024, 128] inb_S1024x128_S1024x128_0_0).toLoadRect f3 = (Memref.whole cc0_scratch1).view.read (Elt F) f3 := View.readAt_full _ _ _
  rw [e0, ea, ei]
  subst hf0 hf1 hf2 hf3
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap
    · iexact H4
    · ipureintro
      refine (read_write_full (stage0_2 s2) inb_S1024x1_S1024x1_0_0 f4 _).trans ?_
      rfl
  isplitl [H5]
  · iexists _; isplitr; swap
    · iexact H5
    · ipureintro
      refine (read_write_full (stage0_3 s3) inb_S1024x1_S1024x1_0_0 f5 _).trans ?_
      rfl
  · iexists _; isplitr; swap
    · iexact H6
    · ipureintro
      refine (read_write_full (stage0_4 s4) inb_S1024x1_S1024x1_0_0 f6 _).trans ?_
      rfl

end Cert.KProof

end
-- ==== Proof.Region0.lean ====
/- The first call: its proof data and the obligation of its body. The results are held to a predicate, for what the last
   point computes from the block that overhangs the keys may depend on the overhanging part. -/
module

public import proofs.«01_k».proof.Proof.Body0
public import proofs.«01_k».proof.Proof.Body0First
public import proofs.«01_k».proof.Proof.Body0Last
public import Idealize.ShloMosaic.Lib.Pipeline.DatRel
public import Idealize.ShloMosaic.Lib.Pipeline.Frame
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose BodyObligationRel cellOf kernel pipe)

variable {F : FTy → Type} [FloatOps F]
variable {U : Type} [URA U]

local notation "𝕄" => MT nD τ sig Unit (Elt F) ℕ U ℕ

/-- The grid point of a number. -/
def pt0 (n : ℕ) : Fin cfg0.N := ⟨n % 123, by have h : cfg0.N = 123 := N_0; rw [h]; exact Nat.mod_lt _ (by decide)⟩

theorem pt0_val (t : Fin cfg0.N) : pt0 t.val = t :=
  Fin.ext (Nat.mod_eq_of_lt (by have := t.isLt; have h : cfg0.N = 123 := N_0; omega))

theorem coords0 (t : Fin cfg0.N) : (grid0.coords t 0).val = t.val := by
  have := t.isLt; have h : cfg0.N = 123 := N_0
  rw [Pipeline.Grid.coords_val t 0 (S := 1) (B := 123) (by decide) rfl]
  omega

/-- The keys' block at a point as the fetch leaves it, `d` where it overhangs the keys. -/
def kblk0 (x : S16x1000000.Idx → Elt F .bf16) (d : S16x8192.Idx → Elt F .bf16) (t : Fin cfg0.N) : S16x8192.Idx → Elt F .bf16 :=
  win0_1.fill (grid0.coords t) d ((win0_1.blk t).view.read (Elt F) x)

/-- The contents the proof picks where nothing else is known. -/
def none0 : S16x8192.Idx → Elt F .bf16 := fun _ => Scalar.ofBits .bf16 0#16

/-- The scratch after point `n`: the running maximum and its block. The last point stores nothing there. -/
def scr0 (q : S1024x16.Idx → Elt F .bf16) (x : S16x1000000.Idx → Elt F .bf16) : ℕ → (S1024x128.Idx → Elt F .f32) × (S1024x128.Idx → Elt F .i32)
  | 0 => (updA q (kblk0 x none0 (pt0 0)) (k0_pay1 (F := F)),
      updI (grid0.coords (pt0 0)) q (kblk0 x none0 (pt0 0)) (k0_pay1 (F := F)) k0_pay2)
  | n + 1 => if n + 1 < 122 then
      (updA q (kblk0 x none0 (pt0 (n + 1))) (scr0 q x n).1,
        updI (grid0.coords (pt0 (n + 1))) q (kblk0 x none0 (pt0 (n + 1))) (scr0 q x n).1 (scr0 q x n).2)
      else scr0 q x n

/-- The results of the last point from the scratch and the last block, whose overhanging part is `d`. -/
def val0 (q : S1024x16.Idx → Elt F .bf16) (x : S16x1000000.Idx → Elt F .bf16) (d : S16x8192.Idx → Elt F .bf16) : S1024x1.Idx → Elt F .f32 :=
  outV q (kblk0 x d (pt0 122)) (scr0 q x 121).1
def enc0 (q : S1024x16.Idx → Elt F .bf16) (x : S16x1000000.Idx → Elt F .bf16) (d : S16x8192.Idx → Elt F .bf16) : S1024x1.Idx → Elt F .i32 :=
  outE (grid0.coords (pt0 122)) q (kblk0 x d (pt0 122)) (scr0 q x 121).1 (scr0 q x 121).2
def cnt0 (q : S1024x16.Idx → Elt F .bf16) (x : S16x1000000.Idx → Elt F .bf16) (d : S16x8192.Idx → Elt F .bf16) : S1024x1.Idx → Elt F .i32 :=
  outC q (kblk0 x d (pt0 122)) (scr0 q x 121).1

/-- The call's own scratch, listed. -/
abbrev own0 : List (Ref sig .tc) := [cc0_scratch0, cc0_scratch1]

theorem rest0_split (c : Dev nD) : (Pipeline.scopedRest (Ix := Unit) (Name := ℕ) (U := U) (Lvl := ℕ) (Val := Elt F) spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
      ∗ Pipeline.scopedRestBut (Ix := Unit) (Name := ℕ) (U := U) (Lvl := ℕ) (Val := Elt F) spec0 c own0) :=
  Pipeline.scopedRest_split_of_list spec0 c own0 (by decide) (by decide)

/-- The invariant before point `n`: at first the scratch at any contents, then at what the points so far left. -/
def Inv0 (V : Valuation τ sig (Elt F)) (c : Dev nD) : ℕ → sProp 𝕄
  | 0 => Pipeline.scopedRest (Ix := Unit) (Name := ℕ) (U := U) (Lvl := ℕ) (Val := Elt F) spec0 c
  | n + 1 => iprop((owns (c : Thread nD τ) (Memref.whole cc0_scratch0) fullShare (scr0 (V main_v5) (V main_v12) n).1
      ∗ owns (c : Thread nD τ) (Memref.whole cc0_scratch1) fullShare (scr0 (V main_v5) (V main_v12) n).2)
      ∗ Pipeline.scopedRestBut (Ix := Unit) (Name := ℕ) (U := U) (Lvl := ℕ) (Val := Elt F) spec0 c own0)

/-- The proof data at the entry contents `V`. -/
def dat0 (V : Valuation τ sig (Elt F)) (c : Dev nD) : Dat τ (Elt F) Unit ℕ U ℕ cfg0 c where
  A w := V (Proc.devRef .tc (Pipeline.arrRef spec0 w))
  after w t := match w with
    | ⟨0, _⟩ => V main_v5
    | ⟨1, _⟩ => kblk0 (V main_v12) none0 t
    | ⟨2, _⟩ => val0 (V main_v5) (V main_v12) none0
    | ⟨3, _⟩ => enc0 (V main_v5) (V main_v12) none0
    | ⟨4, _⟩ => cnt0 (V main_v5) (V main_v12) none0
  Φ t := Inv0 V c t.val
  q _ := fullShare
  owed _ := 0

/-- The results are held to a predicate. -/
abbrev fgt0 : Fin 5 → Bool := fun | 0 => false | 1 => false | 2 => true | 3 => true | 4 => true | ⟨_ + 5, h⟩ => absurd h (Nat.not_lt.2 (Nat.le_add_left _ _))

/-- After the last point they are that point's results, for some overhanging part. -/
def rel0 (V : Valuation τ sig (Elt F)) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun t X => t.val = 122 → ∃ d, X = val0 (V main_v5) (V main_v12) d
  | ⟨3, _⟩ => fun t X => t.val = 122 → ∃ d, X = enc0 (V main_v5) (V main_v12) d
  | ⟨4, _⟩ => fun t X => t.val = 122 → ∃ d, X = cnt0 (V main_v5) (V main_v12) d

/-- The queries' block is the whole array. -/
theorem read0_0 (x : S1024x16.Idx → Elt F .bf16) (t : Fin cfg0.N) : (win0_0.blk t).view.read (Elt F) x = x := by
  funext j
  show x _ = x j
  congr 1
  funext a
  apply Fin.ext
  refine (Pipeline.Window.rect_emb_val win0_0 t j a).trans ?_
  fin_cases a <;> exact Nat.zero_add _

theorem before0_0 (V : Valuation τ sig (Elt F)) (c : Dev nD) (t : Fin cfg0.N) (d) :
    (dat0 (U := U) V c).before (0 : Fin 5) t d = V main_v5 := by
  by_cases h : t.val = 0
  · unfold Dat.before; rw [if_pos ((fetch0_0 t).mpr (by omega))]
    exact read0_0 (F := F) (V main_v5) t
  · have ht := t.isLt; have hN : cfg0.N = 123 := N_0
    have hf : (cfg0.win 0).fetch t = false := by
      rw [Bool.eq_false_iff]; intro h'; have := (fetch0_0 t).mp h'; omega
    rw [Dat.before_of_pos _ _ _ h hf]
    rw [if_neg (by rw [win0_0.flush_in rfl]; exact Bool.false_ne_true)]
    rfl

theorem before0_1 (V : Valuation τ sig (Elt F)) (c : Dev nD) (t : Fin cfg0.N) (d) :
    (dat0 (U := U) V c).before (1 : Fin 5) t d = kblk0 (V main_v12) d t := by
  unfold Dat.before; rw [if_pos (fetch0_1 t)]; rfl

theorem clip0 : ∀ x : Fin 123, x.val < 122 → Pipeline.Clip.of (BitVec.ofNat 32 x.val).toNat 8192 1000000 = none := by
  decide +kernel

/-- Below the last point the keys' block does not overhang. -/
theorem kblk0_eq (x : S16x1000000.Idx → Elt F .bf16) (d d' : S16x8192.Idx → Elt F .bf16) (t : Fin cfg0.N) (ht : t.val < 122) :
    kblk0 x d t = kblk0 x d' t := by
  have h : ∀ a, win0_1.clip (grid0.coords t) a = none := by
    intro a
    have hc := coords0 t
    fin_cases a
    · rfl
    · exact clip0 (grid0.coords t 0) (by omega)
  unfold kblk0
  exact Pipeline.fill_of_clip_none (cfg := cfg0) 1 _ h _ _ _

/-- On the part inside the keys the fetch's block does not depend on the rest. -/
theorem keep0 (x : S16x1000000.Idx → Elt F .bf16) (d d' : S16x8192.Idx → Elt F .bf16) (t : Fin cfg0.N) :
    win0_1.fill (grid0.coords t) d (win0_1.cut (grid0.coords t) (kblk0 x d' t)) = kblk0 x d t := by
  unfold kblk0; rw [Window.cut_fill]

/-- The invariant after the first point, from what it left. -/
theorem inv0_succ (V : Valuation τ sig (Elt F)) (c : Dev nD) (n : ℕ) : Inv0 (U := U) V c (n + 1)
    = iprop((owns (c : Thread nD τ) (Memref.whole cc0_scratch0) fullShare (scr0 (V main_v5) (V main_v12) n).1
      ∗ owns (c : Thread nD τ) (Memref.whole cc0_scratch1) fullShare (scr0 (V main_v5) (V main_v12) n).2)
      ∗ Pipeline.scopedRestBut (Ix := Unit) (Name := ℕ) (U := U) (Lvl := ℕ) (Val := Elt F) spec0 c own0) := rfl

/-- The obligation of the body. -/
theorem obl0 (V : Valuation τ sig (Elt F)) (c : Dev nD) :
    BodyObligationRel (dat0 (U := U) V c) (defs₀ (F := F)) 𝒱₀ () Set.univ fgt0 (rel0 V) := fun t => by
  rw [bigSep_W0, bigSep_W0]
  simp only
  rw [show (dat0 (U := U) V c).Φ t.succ = Inv0 V c (t.val + 1) from rfl,
    show (dat0 (U := U) V c).Φ t.castSucc = Inv0 V c t.val from rfl,
    show (dat0 (U := U) V c).owesAt () t.succ = (dat0 (U := U) V c).owesAt () t.castSucc from rfl]
  have hc := coords0 t
  have hN : cfg0.N = 123 := N_0
  have hlt := t.isLt
  rcases Nat.eq_zero_or_pos t.val with h0 | hpos
  · have et : t = pt0 0 := by rw [← h0, pt0_val]
    rw [h0, inv0_succ, show Inv0 (U := U) V c 0 = _ from rest0_split c]
    iintro ⟨HΦ, Ho, ⟨%d0, H0⟩, ⟨%d1, H1⟩, ⟨%Y2, -, H2⟩, ⟨%Y3, -, H3⟩, ⟨%Y4, -, H4⟩⟩
    rw [before0_0 V c t d0, before0_1 V c t d1]
    icases HΦ with ⟨⟨⟨%A, HA⟩, ⟨%I, HI⟩⟩, HR⟩
    iapply (body0_first (F := F) (U := U) c Set.univ (grid0.coords t) (cfg0.slots t 0) (cfg0.slots t 1) (cfg0.slots t 2) (cfg0.slots t 3) (cfg0.slots t 4)
      (hc.trans h0) (V main_v5) (kblk0 (V main_v12) d1 t) A I _)
    isplitl [H0 H1 HA HI]
    · isplitl [H0]; · iexact H0
      isplitl [H1]; · iexact H1
      rw [owns_whole_eq, owns_whole_eq]
      isplitl [HA]
      · iexists A; isplitr; · ipureintro; rfl
        iexact HA
      · iexists I; isplitr; · ipureintro; rfl
        iexact HI
    iintro ⟨H0, H1, HA, HI⟩
    rw [kblk0_eq _ d1 none0 t (by omega)]
    isplitl [HA HI HR]
    · isplitl [HA HI]
      · rw [et]
        isplitl [HA]; · iexact HA
        iexact HI
      · iexact HR
    isplitl [Ho]; · iexact Ho
    isplitl [H0]; · iexact H0
    isplitl [H1]
    · iexists none0
      change _ ⊢ owns (c : Thread nD τ) (stage0_1 (cfg0.slots t 1)) fullShare (win0_1.fill (grid0.coords t) none0 (win0_1.cut (grid0.coords t) (kblk0 (V main_v12) none0 t)))
      rw [keep0]
    isplitl [H2]
    · iexists Y2; isplitr; · ipureintro; intro h; omega
      iexact H2
    isplitl [H3]
    · iexists Y3; isplitr; · ipureintro; intro h; omega
      iexact H3
    · iexists Y4; isplitr; · ipureintro; intro h; omega
      iexact H4
  · obtain ⟨n, hn⟩ : ∃ n, t.val = n + 1 := ⟨t.val - 1, by omega⟩
    have et : t = pt0 (n + 1) := by rw [← hn, pt0_val]
    rw [hn, inv0_succ, inv0_succ]
    iintro ⟨HΦ, Ho, ⟨%d0, H0⟩, ⟨%d1, H1⟩, ⟨%Y2, -, H2⟩, ⟨%Y3, -, H3⟩, ⟨%Y4, -, H4⟩⟩
    rw [before0_0 V c t d0, before0_1 V c t d1]
    icases HΦ with ⟨⟨HA, HI⟩, HR⟩
    by_cases hl : n + 1 < 122
    · iapply (body0_mid (F := F) (U := U) c Set.univ (grid0.coords t) (cfg0.slots t 0) (cfg0.slots t 1) (cfg0.slots t 2) (cfg0.slots t 3) (cfg0.slots t 4)
        (by omega) (by omega) (V main_v5) (kblk0 (V main_v12) d1 t) (scr0 (V main_v5) (V main_v12) n).1 (scr0 (V main_v5) (V main_v12) n).2 _)
      isplitl [H0 H1 HA HI]
      · isplitl [H0]; · iexact H0
        isplitl [H1]; · iexact H1
        isplitl [HA]; · iexact HA
        iexact HI
      iintro ⟨H0, H1, HA, HI⟩
      rw [kblk0_eq _ d1 none0 t (by omega)]
      isplitl [HA HI HR]
      · isplitl [HA HI]
        · rw [show scr0 (V main_v5) (V main_v12) (n + 1) = (updA (V main_v5) (kblk0 (V main_v12) none0 t) (scr0 (V main_v5) (V main_v12) n).1,
            updI (grid0.coords t) (V main_v5) (kblk0 (V main_v12) none0 t) (scr0 (V main_v5) (V main_v12) n).1 (scr0 (V main_v5) (V main_v12) n).2) from by
            rw [et]; exact if_pos hl]
          isplitl [HA]; · iexact HA
          iexact HI
        · iexact HR
      isplitl [Ho]; · iexact Ho
      isplitl [H0]; · iexact H0
      isplitl [H1]
      · iexists none0
        change _ ⊢ owns (c : Thread nD τ) (stage0_1 (cfg0.slots t 1)) fullShare (win0_1.fill (grid0.coords t) none0 (win0_1.cut (grid0.coords t) (kblk0 (V main_v12) none0 t)))
        rw [keep0]
      isplitl [H2]
      · iexists Y2; isplitr; · ipureintro; intro h; omega
        iexact H2
      isplitl [H3]
      · iexists Y3; isplitr; · ipureintro; intro h; omega
        iexact H3
      · iexists Y4; isplitr; · ipureintro; intro h; omega
        iexact H4
    · have hn' : n = 121 := by omega
      subst hn'
      iapply (body0_last (F := F) (U := U) c Set.univ (grid0.coords t) (cfg0.slots t 0) (cfg0.slots t 1) (cfg0.slots t 2) (cfg0.slots t 3) (cfg0.slots t 4)
        (by omega) (V main_v5) (kblk0 (V main_v12) d1 t) (scr0 (V main_v5) (V main_v12) 121).1 (scr0 (V main_v5) (V main_v12) 121).2 Y2 Y3 Y4 _)
      isplitl [H0 H1 HA HI H2 H3 H4]
      · isplitl [H0]; · iexact H0
        isplitl [H1]; · iexact H1
        isplitl [HA]; · iexact HA
        isplitl [HI]; · iexact HI
        isplitl [H2]; · iexact H2
        isplitl [H3]; · iexact H3
        iexact H4
      iintro ⟨H0, H1, HA, HI, H2, H3, H4⟩
      isplitl [HA HI HR]
      · isplitl [HA HI]
        · rw [show scr0 (V main_v5) (V main_v12) (121 + 1) = scr0 (V main_v5) (V main_v12) 121 from if_neg (by omega)]
          isplitl [HA]; · iexact HA
          iexact HI
        · iexact HR
      isplitl [Ho]; · iexact Ho
      isplitl [H0]; · iexact H0
      isplitl [H1]
      · iexists d1
        change _ ⊢ owns (c : Thread nD τ) (stage0_1 (cfg0.slots t 1)) fullShare (win0_1.fill (grid0.coords t) d1 (win0_1.cut (grid0.coords t) (kblk0 (V main_v12) none0 t)))
        rw [keep0]
      isplitl [H2]
      · iexists _; isplitr; swap
        · iexact H2
        ipureintro; intro _; exact ⟨d1, by rw [et]; rfl⟩
      isplitl [H3]
      · iexists _; isplitr; swap
        · iexact H3
        ipureintro; intro _; exact ⟨d1, by rw [et]; rfl⟩
      · iexists _; isplitr; swap
        · iexact H4
        ipureintro; intro _; exact ⟨d1, by rw [et]; rfl⟩

end Cert.KProof

end
-- ==== Proof.Body1.lean ====
/- The body of the second phase: what one grid point leaves in its two results. -/
module

public import proofs.«01_k».proof.Proof.BodyRead

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

set_option maxHeartbeats 1000000 in
/-- A point of the second phase stores the index and the check of its 128 rows. -/
theorem body1 (c : Dev nD) (E : Set ℕ) (i : grid1.Coords) (s0 s1 s2 s3 s4 s5 : Fin 2)
    (X0 : S128x16.Idx → Elt F .bf16) (X1 : S16x8192.Idx → Elt F .bf16) (X2 : S128x1.Idx → Elt F .f32) (X3 : S128x1.Idx → Elt F .i32)
    (X4 X5 : S128x1.Idx → Elt F .i32)
    (K : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3
            ∗ owns (c : Thread nD τ) (stage1_4 s4) fullShare X4 ∗ owns (c : Thread nD τ) (stage1_5 s5) fullShare X5)
          ∗ (iprop(owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3
            ∗ owns (c : Thread nD τ) (stage1_4 s4) fullShare (k1_pay1 (k1_pay5 X0 X1) 64#32 X3)
            ∗ owns (c : Thread nD τ) (stage1_5 s5) fullShare (k1_pay2 (k1_pay4 X0 X1) X2)) -∗ K ⟨⟩))
      ⊢ wp frame (wpE (defs₀ (F := F)) 𝒱₀ c none) E
          (cc1__phase2_body i (stage1_0 s0) (hstage1_0 s0) (stage1_1 s1) (hstage1_1 s1) (stage1_2 s2) (hstage1_2 s2) (stage1_3 s3) (hstage1_3 s3)
            (stage1_4 s4) (hstage1_4 s4) (stage1_5 s5) (hstage1_5 s5)) K := by
  unfold owns
  simp only [cc1__phase2_body_eq_skeleton]; unfold cc1__phase2_body_skel
  simp only [k1_part1_eq_skeleton]; unfold k1_part1_skel
  simp only [Prog.lift, Prog.bind_op, Prog.bind_ret, Prog.pure_eq_ret]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  sl_steps
  iapply Hk
  have e0 : View.readAt (Elt F) (stage1_0 s0).view (Rect.unit ![0, 0] ![128, 16] inb_S128x16_S128x16_0_0).toLoadRect f0 = (stage1_0 s0).view.read (Elt F) f0 := View.readAt_full _ _ _
  have e1 : View.readAt (Elt F) (stage1_1 s1).view (Rect.unit ![0, 0] ![16, 8192] inb_S16x8192_S16x8192_0_0).toLoadRect f1 = (stage1_1 s1).view.read (Elt F) f1 := View.readAt_full _ _ _
  have e2 : View.readAt (Elt F) (stage1_2 s2).view (Rect.unit ![0, 0] ![128, 1] inb_S128x1_S128x1_0_0).toLoadRect f2 = (stage1_2 s2).view.read (Elt F) f2 := View.readAt_full _ _ _
  have e3 : View.readAt (Elt F) (stage1_3 s3).view (Rect.unit ![0, 0] ![128, 1] inb_S128x1_S128x1_0_0).toLoadRect f3 = (stage1_3 s3).view.read (Elt F) f3 := View.readAt_full _ _ _
  rw [e0, e1, e2, e3]
  subst hf0 hf1 hf2 hf3
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr; swap
    · iexact H4
    · ipureintro
      exact (read_write_full (stage1_4 s4) inb_S128x1_S128x1_0_0 f4 _)
  · iexists _; isplitr; swap
    · iexact H5
    · ipureintro
      exact (read_write_full (stage1_5 s5) inb_S128x1_S128x1_0_0 f5 _)

end Cert.KProof

end
-- ==== Proof.Region1.lean ====
/- The second call: its proof data and the obligation of its body. -/
module

public import proofs.«01_k».proof.Proof.Body1
public import Idealize.ShloMosaic.Lib.Pipeline.DatRel
public import Idealize.ShloMosaic.Lib.Pipeline.Frame
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose BodyObligationRel cellOf kernel pipe)

variable {F : FTy → Type} [FloatOps F]
variable {U : Type} [URA U]

local notation "𝕄" => MT nD τ sig Unit (Elt F) ℕ U ℕ

/-- The blocks of the operands at a point. -/
def qblk1 (V : Valuation τ sig (Elt F)) (t : Fin cfg1.N) : S128x16.Idx → Elt F .bf16 := (win1_0.blk t).view.read (Elt F) (V main_v5)
def kblk1 (V : Valuation τ sig (Elt F)) (t : Fin cfg1.N) : S16x8192.Idx → Elt F .bf16 := (win1_1.blk t).view.read (Elt F) (V main_v36)
def vblk1 (V : Valuation τ sig (Elt F)) (t : Fin cfg1.N) : S128x1.Idx → Elt F .f32 := (win1_2.blk t).view.read (Elt F) (V main_v13_0)
def bblk1 (V : Valuation τ sig (Elt F)) (t : Fin cfg1.N) : S128x1.Idx → Elt F .i32 := (win1_3.blk t).view.read (Elt F) (V main_v18)

/-- What the body stores at a point: the index and whether its score is the row maximum. -/
def idx1 (V : Valuation τ sig (Elt F)) (t : Fin cfg1.N) : S128x1.Idx → Elt F .i32 :=
  k1_pay1 (F := F) (k1_pay5 (qblk1 V t) (kblk1 V t)) 64#32 (bblk1 V t)
def ok1 (V : Valuation τ sig (Elt F)) (t : Fin cfg1.N) : S128x1.Idx → Elt F .i32 :=
  k1_pay2 (k1_pay4 (qblk1 V t) (kblk1 V t)) (vblk1 V t)

/-- The proof data at the entry contents `V`. -/
def dat1 (V : Valuation τ sig (Elt F)) (c : Dev nD) : Dat τ (Elt F) Unit ℕ U ℕ cfg1 c where
  A w := V (Proc.devRef .tc (Pipeline.arrRef spec1 w))
  after w t := match w with
    | ⟨0, _⟩ => qblk1 V t
    | ⟨1, _⟩ => kblk1 V t
    | ⟨2, _⟩ => vblk1 V t
    | ⟨3, _⟩ => bblk1 V t
    | ⟨4, _⟩ => idx1 V t
    | ⟨5, _⟩ => ok1 V t
  Φ _ := Pipeline.scopedRest (Ix := Unit) (Name := ℕ) (U := U) (Lvl := ℕ) (Val := Elt F) spec1 c
  q _ := fullShare
  owed _ := 0

/-- No window is held to a predicate. -/
abbrev fgt1 : Fin 6 → Bool := fun _ => false
def rel1 : (w : Fin cfg1.W) → Fin cfg1.N → ((cfg1.win w).block.Idx → Elt F (cfg1.win w).elt) → Prop := fun _ _ _ => True

theorem before1_0 (V : Valuation τ sig (Elt F)) (c : Dev nD) (t : Fin cfg1.N) (d) : (dat1 (U := U) V c).before (0 : Fin 6) t d = qblk1 V t := by
  unfold Dat.before; rw [if_pos (fetch1_0 t)]; rfl
theorem before1_1 (V : Valuation τ sig (Elt F)) (c : Dev nD) (t : Fin cfg1.N) (d) : (dat1 (U := U) V c).before (1 : Fin 6) t d = kblk1 V t := by
  unfold Dat.before; rw [if_pos (fetch1_1 t)]; rfl
theorem before1_2 (V : Valuation τ sig (Elt F)) (c : Dev nD) (t : Fin cfg1.N) (d) : (dat1 (U := U) V c).before (2 : Fin 6) t d = vblk1 V t := by
  unfold Dat.before; rw [if_pos (fetch1_2 t)]; rfl
theorem before1_3 (V : Valuation τ sig (Elt F)) (c : Dev nD) (t : Fin cfg1.N) (d) : (dat1 (U := U) V c).before (3 : Fin 6) t d = bblk1 V t := by
  unfold Dat.before; rw [if_pos (fetch1_3 t)]; rfl

/-- The obligation of the body. -/
theorem obl1 (V : Valuation τ sig (Elt F)) (c : Dev nD) :
    BodyObligationRel (dat1 (U := U) V c) (defs₀ (F := F)) 𝒱₀ () Set.univ fgt1 rel1 := fun t => by
  rw [bigSep_W1, bigSep_W1]
  simp only
  rw [show (dat1 (U := U) V c).Φ t.succ = (dat1 (U := U) V c).Φ t.castSucc from rfl,
    show (dat1 (U := U) V c).owesAt () t.succ = (dat1 (U := U) V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before1_0 V c t d0, before1_1 V c t d1, before1_2 V c t d2, before1_3 V c t d3]
  iapply (body1 (F := F) (U := U) c Set.univ (grid1.coords t) (cfg1.slots t 0) (cfg1.slots t 1) (cfg1.slots t 2) (cfg1.slots t 3)
    (cfg1.slots t 4) (cfg1.slots t 5) (qblk1 V t) (kblk1 V t) (vblk1 V t) (bblk1 V t) _ _ _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KProof

end
-- ==== Proof.Body2.lean ====
/- The body of the exact fallback call: what a later grid point leaves in the scratch and in the results. -/
module

public import proofs.«01_k».proof.Proof.BodyLib

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

/-- The first branch is taken at the first point only. -/
theorem first2 : ∀ x : Fin 489, Scalar.cmpi .ne (Scalar.extui (Scalar.cmpi .eq (BitVec.ofNat 32 x.val) 0#32) : BitVec 32) 0#32 = 1#1 ↔ x.val = 0 := by
  decide +kernel
/-- The second at every point but the last. -/
theorem below2 : ∀ x : Fin 489, Scalar.cmpi .ne (Scalar.extui (Scalar.cmpi .slt (BitVec.ofNat 32 x.val) 488#32) : BitVec 32) 0#32 = 1#1 ↔ x.val < 488 := by
  decide +kernel
/-- The third at the last point only. -/
theorem last2 : ∀ x : Fin 489, Scalar.cmpi .ne (Scalar.extui (Scalar.cmpi .eq (BitVec.ofNat 32 x.val) 488#32) : BitVec 32) 0#32 = 1#1 ↔ x.val = 488 := by
  decide +kernel

set_option maxHeartbeats 1000000 in
/-- A point that is neither the first nor the last: the scratch is updated, the rest is kept. -/
theorem body2_mid (c : Dev nD) (E : Set ℕ) (i : grid2.Coords) (s0 : Fin 1) (s1 : Fin 2) (s2 : Fin 1) (s3 : Fin 1)
    (h0 : (i 0).val ≠ 0) (h1 : (i 0).val < 488)
    (X0 : S1024x16.Idx → Elt F .bf16) (X1 : S16x2048.Idx → Elt F .bf16) (A : S1024x2048.Idx → Elt F .f32) (I : S1024x2048.Idx → Elt F .i32)
    (K : PUnit → sProp 𝕄) :
    iprop((owns (c : Thread nD τ) (stage2_0 s0) fullShare X0 ∗ owns (c : Thread nD τ) (stage2_1 s1) fullShare X1
            ∗ owns (c : Thread nD τ) (Memref.whole cc2_scratch0) fullShare A ∗ owns (c : Thread nD τ) (Memref.whole cc2_scratch1) fullShare I)
          ∗ (iprop(owns (c : Thread nD τ) (stage2_0 s0) fullShare X0 ∗ owns (c : Thread nD τ) (stage2_1 s1) fullShare X1
            ∗ owns (c : Thread nD τ) (Memref.whole cc2_scratch0) fullShare (k2_pay5 X0 X1 A A)
            ∗ owns (c : Thread nD τ) (Memref.whole cc2_scratch1) fullShare (k2_pay6 i X0 X1 A I)) -∗ K ⟨⟩))
      ⊢ wp frame (wpE (defs₀ (F := F)) 𝒱₀ c none) E
          (cc2__full_body i (stage2_0 s0) (hstage2_0 s0) (stage2_1 s1) (hstage2_1 s1) (stage2_2 s2) (hstage2_2 s2) (stage2_3 s3) (hstage2_3 s3)
            (Memref.whole cc2_scratch0) (Memref.isWhole_whole _) (Memref.whole cc2_scratch1) (Memref.isWhole_whole _)) K := by
  have e1 := mt (first2 (i 0)).mp h0
  have e2 := (below2 (i 0)).mpr h1
  have e3 : ¬ (k2_cond3 i = 1#1) := mt (last2 (i 0)).mp (by omega)
  fin_cases s0 <;> fin_cases s1 <;> fin_cases s2 <;> fin_cases s3
  all_goals
    simp only [owns_whole_eq, cc2__full_body_eq_skeleton]; unfold cc2__full_body_skel
    simp only [e1, e2, e3, dite_true, dite_false, reduceDIte, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    subst hf0 hf1 hf2 hf3
    isplitl [H0]
    · iexists f0; isplitr; · ipureintro; rfl
      iexact H0
    isplitl [H1]
    · iexists f1; isplitr; · ipureintro; rfl
      iexact H1
    isplitl [H2]
    · iexists _; isplitr; swap
      · iexact H2
      · ipureintro
        refine (Memref.write_access_unit_zero_univ (Elt F) cc2_scratch0 off00 _ _ _).trans ?_
        congr 1 <;> exact Memref.readAt_unit_zero (Elt F) _ off00 _ _
    · iexists _; isplitr; swap
      · iexact H3
      · ipureintro
        refine (Memref.write_access_unit_zero_univ (Elt F) cc2_scratch1 off00 _ _ _).trans ?_
        congr 1 <;> exact Memref.readAt_unit_zero (Elt F) _ off00 _ _

set_option maxHeartbeats 1000000 in
/-- The last point: the results are stored and the scratch is kept. -/
theorem body2_last (c : Dev nD) (E : Set ℕ) (i : grid2.Coords) (s0 : Fin 1) (s1 : Fin 2) (s2 : Fin 1) (s3 : Fin 1)
    (h0 : (i 0).val = 488)
    (X0 : S1024x16.Idx → Elt F .bf16) (X1 : S16x2048.Idx → Elt F .bf16) (A : S1024x2048.Idx → Elt F .f32) (I : S1024x2048.Idx → Elt F .i32)
    (X2 : S1024x1.Idx → Elt F .f32) (X3 : S1024x1.Idx → Elt F .i32)
    (K : PUnit → sProp 𝕄) :
    iprop((owns (c : Thread nD τ) (stage2_0 s0) fullShare X0 ∗ owns (c : Thread nD τ) (stage2_1 s1) fullShare X1
            ∗ owns (c : Thread nD τ) (Memref.whole cc2_scratch0) fullShare A ∗ owns (c : Thread nD τ) (Memref.whole cc2_scratch1) fullShare I
            ∗ owns (c : Thread nD τ) (stage2_2 s2) fullShare X2 ∗ owns (c : Thread nD τ) (stage2_3 s3) fullShare X3)
          ∗ (iprop(owns (c : Thread nD τ) (stage2_0 s0) fullShare X0 ∗ owns (c : Thread nD τ) (stage2_1 s1) fullShare X1
            ∗ owns (c : Thread nD τ) (Memref.whole cc2_scratch0) fullShare A ∗ owns (c : Thread nD τ) (Memref.whole cc2_scratch1) fullShare I
            ∗ owns (c : Thread nD τ) (stage2_2 s2) fullShare (k2_pay10 X0 X1 A A)
            ∗ owns (c : Thread nD τ) (stage2_3 s3) fullShare (k2_pay11 i X0 X1 A A I)) -∗ K ⟨⟩))
      ⊢ wp frame (wpE (defs₀ (F := F)) 𝒱₀ c none) E
          (cc2__full_body i (stage2_0 s0) (hstage2_0 s0) (stage2_1 s1) (hstage2_1 s1) (stage2_2 s2) (hstage2_2 s2) (stage2_3 s3) (hstage2_3 s3)
            (Memref.whole cc2_scratch0) (Memref.isWhole_whole _) (Memref.whole cc2_scratch1) (Memref.isWhole_whole _)) K := by
  have e1 := mt (first2 (i 0)).mp (by omega)
  have e2 := mt (below2 (i 0)).mp (by omega)
  have e3 : (k2_cond3 i = 1#1) := (last2 (i 0)).mpr h0
  fin_cases s0 <;> fin_cases s1 <;> fin_cases s2 <;> fin_cases s3
  all_goals
    simp only [owns_whole_eq, cc2__full_body_eq_skeleton]; unfold cc2__full_body_skel
    simp only [e1, e2, e3, dite_true, dite_false, reduceDIte, Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
    sl_steps
    iapply Hk
    subst hf0 hf1 hf2 hf3
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap
      · iexact H4
      · ipureintro
        refine (Memref.write_access_unit_zero_univ (Elt F) _ off00 _ _ _).trans ?_
        congr 1 <;> exact Memref.readAt_unit_zero (Elt F) _ off00 _ _
    · iexists _; isplitr; swap
      · iexact H5
      · ipureintro
        refine (Memref.write_access_unit_zero_univ (Elt F) _ off00 _ _ _).trans ?_
        congr 1 <;> exact Memref.readAt_unit_zero (Elt F) _ off00 _ _

end Cert.KProof

end
-- ==== Proof.Body2First.lean ====
/- The body of the exact fallback call: what the first grid point leaves in the scratch. -/
module

public import proofs.«01_k».proof.Proof.Body2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

set_option maxHeartbeats 1000000 in
/-- The first point: the scratch is set, then updated. -/
theorem body2_first (c : Dev nD) (E : Set ℕ) (i : grid2.Coords) (s0 : Fin 1) (s1 : Fin 2) (s2 : Fin 1) (s3 : Fin 1)
    (h0 : (i 0).val = 0)
    (X0 : S1024x16.Idx → Elt F .bf16) (X1 : S16x2048.Idx → Elt F .bf16) (A : S1024x2048.Idx → Elt F .f32) (I : S1024x2048.Idx → Elt F .i32)
    (K : PUnit → sProp 𝕄) :
    iprop((owns (c : Thread nD τ) (stage2_0 s0) fullShare X0 ∗ owns (c : Thread nD τ) (stage2_1 s1) fullShare X1
            ∗ owns (c : Thread nD τ) (Memref.whole cc2_scratch0) fullShare A ∗ owns (c : Thread nD τ) (Memref.whole cc2_scratch1) fullShare I)
          ∗ (iprop(owns (c : Thread nD τ) (stage2_0 s0) fullShare X0 ∗ owns (c : Thread nD τ) (stage2_1 s1) fullShare X1
            ∗ owns (c : Thread nD τ) (Memref.whole cc2_scratch0) fullShare (k2_pay5 X0 X1 (k2_pay1 (F := F)) (k2_pay1 (F := F)))
            ∗ owns (c : Thread nD τ) (Memref.whole cc2_scratch1) fullShare (k2_pay6 i X0 X1 (k2_pay1 (F := F)) k2_pay2)) -∗ K ⟨⟩))
      ⊢ wp frame (wpE (defs₀ (F := F)) 𝒱₀ c none) E
          (cc2__full_body i (stage2_0 s0) (hstage2_0 s0) (stage2_1 s1) (hstage2_1 s1) (stage2_2 s2) (hstage2_2 s2) (stage2_3 s3) (hstage2_3 s3)
            (Memref.whole cc2_scratch0) (Memref.isWhole_whole _) (Memref.whole cc2_scratch1) (Memref.isWhole_whole _)) K := by
  have e1 := (first2 (i 0)).mpr h0
  have e2 := (below2 (i 0)).mpr (by omega)
  have e3 : ¬ (k2_cond3 i = 1#1) := mt (last2 (i 0)).mp (by omega)
  fin_cases s0 <;> fin_cases s1 <;> fin_cases s2 <;> fin_cases s3
  all_goals
    simp only [owns_whole_eq, cc2__full_body_eq_skeleton]; unfold cc2__full_body_skel
    simp only [e1, e2, e3, dite_true, dite_false, reduceDIte, Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    subst hf0 hf1 hf2 hf3
    isplitl [H0]
    · iexists f0; isplitr; · ipureintro; rfl
      iexact H0
    isplitl [H1]
    · iexists f1; isplitr; · ipureintro; rfl
      iexact H1
    isplitl [H2]
    · iexists _; isplitr; swap
      · iexact H2
      · ipureintro
        refine (writes_whole_cons cc2_scratch0 _ _ _ _).trans ?_
        congr 1
        · exact Memref.readAt_unit_zero (Elt F) _ off00 _ _
        · exact Memref.readAt_unit_zero (Elt F) _ off00 _ _
        · exact (Memref.readAt_unit_zero (Elt F) _ off00 _ _).trans (Memref.write_access_unit_zero_univ (Elt F) cc2_scratch0 off00 _ _ _)
        · exact (Memref.readAt_unit_zero (Elt F) _ off00 _ _).trans (Memref.write_access_unit_zero_univ (Elt F) cc2_scratch0 off00 _ _ _)
    · iexists _; isplitr; swap
      · iexact H3
      · ipureintro
        refine (writes_whole_cons cc2_scratch1 _ _ _ _).trans ?_
        congr 1
        · exact Memref.readAt_unit_zero (Elt F) _ off00 _ _
        · exact Memref.readAt_unit_zero (Elt F) _ off00 _ _
        · exact (Memref.readAt_unit_zero (Elt F) _ off00 _ _).trans (Memref.write_access_unit_zero_univ (Elt F) cc2_scratch0 off00 _ _ _)
        · exact (Memref.readAt_unit_zero (Elt F) _ off00 _ _).trans (Memref.write_access_unit_zero_univ (Elt F) cc2_scratch1 off00 _ _ _)

end Cert.KProof

end
-- ==== Proof.Region2.lean ====
/- The exact fallback call: its proof data and the obligation of its body. The results are held to a predicate, for what the last
   point computes from the block that overhangs the keys may depend on the overhanging part. -/
module

public import proofs.«01_k».proof.Proof.Body2
public import proofs.«01_k».proof.Proof.Body2First
public import Idealize.ShloMosaic.Lib.Pipeline.DatRel
public import Idealize.ShloMosaic.Lib.Pipeline.Frame
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose BodyObligationRel cellOf kernel pipe)

variable {F : FTy → Type} [FloatOps F]
variable {U : Type} [URA U]

local notation "𝕄" => MT nD τ sig Unit (Elt F) ℕ U ℕ

/-- The grid point of a number. -/
def pt2 (n : ℕ) : Fin cfg2.N := ⟨n % 489, by have h : cfg2.N = 489 := N_2; rw [h]; exact Nat.mod_lt _ (by decide)⟩

theorem pt2_val (t : Fin cfg2.N) : pt2 t.val = t :=
  Fin.ext (Nat.mod_eq_of_lt (by have := t.isLt; have h : cfg2.N = 489 := N_2; omega))

theorem coords2 (t : Fin cfg2.N) : (grid2.coords t 0).val = t.val := by
  have := t.isLt; have h : cfg2.N = 489 := N_2
  rw [Pipeline.Grid.coords_val t 0 (S := 1) (B := 489) (by decide) rfl]
  omega

/-- The keys' block at a point as the fetch leaves it, `d` where it overhangs the keys. -/
def kblk2 (x : S16x1000000.Idx → Elt F .bf16) (d : S16x2048.Idx → Elt F .bf16) (t : Fin cfg2.N) : S16x2048.Idx → Elt F .bf16 :=
  win2_1.fill (grid2.coords t) d ((win2_1.blk t).view.read (Elt F) x)

/-- The contents the proof picks where nothing else is known. -/
def none2 : S16x2048.Idx → Elt F .bf16 := fun _ => Scalar.ofBits .bf16 0#16

/-- The scratch after point `n`: the running maximum and its block. The last point stores nothing there. -/
def scr2 (q : S1024x16.Idx → Elt F .bf16) (x : S16x1000000.Idx → Elt F .bf16) : ℕ → (S1024x2048.Idx → Elt F .f32) × (S1024x2048.Idx → Elt F .i32)
  | 0 => (k2_pay5 q (kblk2 x none2 (pt2 0)) (k2_pay1 (F := F)) (k2_pay1 (F := F)),
      k2_pay6 (grid2.coords (pt2 0)) q (kblk2 x none2 (pt2 0)) (k2_pay1 (F := F)) k2_pay2)
  | n + 1 => if n + 1 < 488 then
      (k2_pay5 q (kblk2 x none2 (pt2 (n + 1))) (scr2 q x n).1 (scr2 q x n).1,
        k2_pay6 (grid2.coords (pt2 (n + 1))) q (kblk2 x none2 (pt2 (n + 1))) (scr2 q x n).1 (scr2 q x n).2)
      else scr2 q x n

/-- The results of the last point from the scratch and the last block, whose overhanging part is `d`. -/
def val2 (q : S1024x16.Idx → Elt F .bf16) (x : S16x1000000.Idx → Elt F .bf16) (d : S16x2048.Idx → Elt F .bf16) : S1024x1.Idx → Elt F .f32 :=
  k2_pay10 q (kblk2 x d (pt2 488)) (scr2 q x 487).1 (scr2 q x 487).1
def idx2 (q : S1024x16.Idx → Elt F .bf16) (x : S16x1000000.Idx → Elt F .bf16) (d : S16x2048.Idx → Elt F .bf16) : S1024x1.Idx → Elt F .i32 :=
  k2_pay11 (grid2.coords (pt2 488)) q (kblk2 x d (pt2 488)) (scr2 q x 487).1 (scr2 q x 487).1 (scr2 q x 487).2

/-- The call's own scratch, listed. -/
abbrev own2 : List (Ref sig .tc) := [cc2_scratch0, cc2_scratch1]

theorem rest2_split (c : Dev nD) : (Pipeline.scopedRest (Ix := Unit) (Name := ℕ) (U := U) (Lvl := ℕ) (Val := Elt F) spec2 c : sProp 𝕄)
    = iprop(((∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f))
      ∗ Pipeline.scopedRestBut (Ix := Unit) (Name := ℕ) (U := U) (Lvl := ℕ) (Val := Elt F) spec2 c own2) :=
  Pipeline.scopedRest_split_of_list spec2 c own2 (by decide) (by decide)

/-- The invariant before point `n`: at first the scratch at any contents, then at what the points so far left. -/
def Inv2 (V : Valuation τ sig (Elt F)) (c : Dev nD) : ℕ → sProp 𝕄
  | 0 => Pipeline.scopedRest (Ix := Unit) (Name := ℕ) (U := U) (Lvl := ℕ) (Val := Elt F) spec2 c
  | n + 1 => iprop((owns (c : Thread nD τ) (Memref.whole cc2_scratch0) fullShare (scr2 (V main_v5) (V main_v12) n).1
      ∗ owns (c : Thread nD τ) (Memref.whole cc2_scratch1) fullShare (scr2 (V main_v5) (V main_v12) n).2)
      ∗ Pipeline.scopedRestBut (Ix := Unit) (Name := ℕ) (U := U) (Lvl := ℕ) (Val := Elt F) spec2 c own2)

/-- The proof data at the entry contents `V`. -/
def dat2 (V : Valuation τ sig (Elt F)) (c : Dev nD) : Dat τ (Elt F) Unit ℕ U ℕ cfg2 c where
  A w := V (Proc.devRef .tc (Pipeline.arrRef spec2 w))
  after w t := match w with
    | ⟨0, _⟩ => V main_v5
    | ⟨1, _⟩ => kblk2 (V main_v12) none2 t
    | ⟨2, _⟩ => val2 (V main_v5) (V main_v12) none2
    | ⟨3, _⟩ => idx2 (V main_v5) (V main_v12) none2
  Φ t := Inv2 V c t.val
  q _ := fullShare
  owed _ := 0

/-- The results are held to a predicate. -/
abbrev fgt2 : Fin 4 → Bool := fun | 0 => false | 1 => false | 2 => true | 3 => true | ⟨_ + 4, h⟩ => absurd h (Nat.not_lt.2 (Nat.le_add_left _ _))

/-- After the last point they are that point's results, for some overhanging part. -/
def rel2 (V : Valuation τ sig (Elt F)) : (w : Fin cfg2.W) → Fin cfg2.N → ((cfg2.win w).block.Idx → Elt F (cfg2.win w).elt) → Prop
  | ⟨0, _⟩ => fun _ _ => True
  | ⟨1, _⟩ => fun _ _ => True
  | ⟨2, _⟩ => fun t X => t.val = 488 → ∃ d, X = val2 (V main_v5) (V main_v12) d
  | ⟨3, _⟩ => fun t X => t.val = 488 → ∃ d, X = idx2 (V main_v5) (V main_v12) d

/-- The queries' block is the whole array. -/
theorem read2_0 (x : S1024x16.Idx → Elt F .bf16) (t : Fin cfg2.N) : (win2_0.blk t).view.read (Elt F) x = x := by
  funext j
  show x _ = x j
  congr 1
  funext a
  apply Fin.ext
  refine (Pipeline.Window.rect_emb_val win2_0 t j a).trans ?_
  fin_cases a <;> exact Nat.zero_add _

theorem before2_0 (V : Valuation τ sig (Elt F)) (c : Dev nD) (t : Fin cfg2.N) (d) :
    (dat2 (U := U) V c).before (0 : Fin 4) t d = V main_v5 := by
  by_cases h : t.val = 0
  · unfold Dat.before; rw [if_pos ((fetch2_0 t).mpr (by omega))]
    exact read2_0 (F := F) (V main_v5) t
  · have ht := t.isLt; have hN : cfg2.N = 489 := N_2
    have hf : (cfg2.win 0).fetch t = false := by
      rw [Bool.eq_false_iff]; intro h'; have := (fetch2_0 t).mp h'; omega
    rw [Dat.before_of_pos _ _ _ h hf]
    rw [if_neg (by rw [win2_0.flush_in rfl]; exact Bool.false_ne_true)]
    rfl

theorem before2_1 (V : Valuation τ sig (Elt F)) (c : Dev nD) (t : Fin cfg2.N) (d) :
    (dat2 (U := U) V c).before (1 : Fin 4) t d = kblk2 (V main_v12) d t := by
  unfold Dat.before; rw [if_pos (fetch2_1 t)]; rfl

theorem clip2 : ∀ x : Fin 489, x.val < 488 → Pipeline.Clip.of (BitVec.ofNat 32 x.val).toNat 2048 1000000 = none := by
  decide +kernel

/-- Below the last point the keys' block does not overhang. -/
theorem kblk2_eq (x : S16x1000000.Idx → Elt F .bf16) (d d' : S16x2048.Idx → Elt F .bf16) (t : Fin cfg2.N) (ht : t.val < 488) :
    kblk2 x d t = kblk2 x d' t := by
  have h : ∀ a, win2_1.clip (grid2.coords t) a = none := by
    intro a
    have hc := coords2 t
    fin_cases a
    · rfl
    · exact clip2 (grid2.coords t 0) (by omega)
  unfold kblk2
  exact Pipeline.fill_of_clip_none (cfg := cfg2) 1 _ h _ _ _

/-- On the part inside the keys the fetch's block does not depend on the rest. -/
theorem keep2 (x : S16x1000000.Idx → Elt F .bf16) (d d' : S16x2048.Idx → Elt F .bf16) (t : Fin cfg2.N) :
    win2_1.fill (grid2.coords t) d (win2_1.cut (grid2.coords t) (kblk2 x d' t)) = kblk2 x d t := by
  unfold kblk2; rw [Window.cut_fill]

/-- The invariant after the first point, from what it left. -/
theorem inv2_succ (V : Valuation τ sig (Elt F)) (c : Dev nD) (n : ℕ) : Inv2 (U := U) V c (n + 1)
    = iprop((owns (c : Thread nD τ) (Memref.whole cc2_scratch0) fullShare (scr2 (V main_v5) (V main_v12) n).1
      ∗ owns (c : Thread nD τ) (Memref.whole cc2_scratch1) fullShare (scr2 (V main_v5) (V main_v12) n).2)
      ∗ Pipeline.scopedRestBut (Ix := Unit) (Name := ℕ) (U := U) (Lvl := ℕ) (Val := Elt F) spec2 c own2) := rfl

/-- The obligation of the body. -/
theorem obl2 (V : Valuation τ sig (Elt F)) (c : Dev nD) :
    BodyObligationRel (dat2 (U := U) V c) (defs₀ (F := F)) 𝒱₀ () Set.univ fgt2 (rel2 V) := fun t => by
  rw [bigSep_W2, bigSep_W2]
  simp only
  rw [show (dat2 (U := U) V c).Φ t.succ = Inv2 V c (t.val + 1) from rfl,
    show (dat2 (U := U) V c).Φ t.castSucc = Inv2 V c t.val from rfl,
    show (dat2 (U := U) V c).owesAt () t.succ = (dat2 (U := U) V c).owesAt () t.castSucc from rfl]
  have hc := coords2 t
  have hN : cfg2.N = 489 := N_2
  have hlt := t.isLt
  rcases Nat.eq_zero_or_pos t.val with h0 | hpos
  · have et : t = pt2 0 := by rw [← h0, pt2_val]
    rw [h0, inv2_succ, show Inv2 (U := U) V c 0 = _ from rest2_split c]
    iintro ⟨HΦ, Ho, ⟨%d0, H0⟩, ⟨%d1, H1⟩, ⟨%Y2, -, H2⟩, ⟨%Y3, -, H3⟩⟩
    rw [before2_0 V c t d0, before2_1 V c t d1]
    icases HΦ with ⟨⟨⟨%A, HA⟩, ⟨%I, HI⟩⟩, HR⟩
    iapply (body2_first (F := F) (U := U) c Set.univ (grid2.coords t) (cfg2.slots t 0) (cfg2.slots t 1) (cfg2.slots t 2) (cfg2.slots t 3)
      (hc.trans h0) (V main_v5) (kblk2 (V main_v12) d1 t) A I _)
    isplitl [H0 H1 HA HI]
    · isplitl [H0]; · iexact H0
      isplitl [H1]; · iexact H1
      rw [owns_whole_eq, owns_whole_eq]
      isplitl [HA]
      · iexists A; isplitr; · ipureintro; rfl
        iexact HA
      · iexists I; isplitr; · ipureintro; rfl
        iexact HI
    iintro ⟨H0, H1, HA, HI⟩
    rw [kblk2_eq _ d1 none2 t (by omega)]
    isplitl [HA HI HR]
    · isplitl [HA HI]
      · rw [et]
        isplitl [HA]; · iexact HA
        iexact HI
      · iexact HR
    isplitl [Ho]; · iexact Ho
    isplitl [H0]; · iexact H0
    isplitl [H1]
    · iexists none2
      change _ ⊢ owns (c : Thread nD τ) (stage2_1 (cfg2.slots t 1)) fullShare (win2_1.fill (grid2.coords t) none2 (win2_1.cut (grid2.coords t) (kblk2 (V main_v12) none2 t)))
      rw [keep2]
    isplitl [H2]
    · iexists Y2; isplitr; · ipureintro; intro h; omega
      iexact H2
    · iexists Y3; isplitr; · ipureintro; intro h; omega
      iexact H3
  · obtain ⟨n, hn⟩ : ∃ n, t.val = n + 1 := ⟨t.val - 1, by omega⟩
    have et : t = pt2 (n + 1) := by rw [← hn, pt2_val]
    rw [hn, inv2_succ, inv2_succ]
    iintro ⟨HΦ, Ho, ⟨%d0, H0⟩, ⟨%d1, H1⟩, ⟨%Y2, -, H2⟩, ⟨%Y3, -, H3⟩⟩
    rw [before2_0 V c t d0, before2_1 V c t d1]
    icases HΦ with ⟨⟨HA, HI⟩, HR⟩
    by_cases hl : n + 1 < 488
    · iapply (body2_mid (F := F) (U := U) c Set.univ (grid2.coords t) (cfg2.slots t 0) (cfg2.slots t 1) (cfg2.slots t 2) (cfg2.slots t 3)
        (by omega) (by omega) (V main_v5) (kblk2 (V main_v12) d1 t) (scr2 (V main_v5) (V main_v12) n).1 (scr2 (V main_v5) (V main_v12) n).2 _)
      isplitl [H0 H1 HA HI]
      · isplitl [H0]; · iexact H0
        isplitl [H1]; · iexact H1
        isplitl [HA]; · iexact HA
        iexact HI
      iintro ⟨H0, H1, HA, HI⟩
      rw [kblk2_eq _ d1 none2 t (by omega)]
      isplitl [HA HI HR]
      · isplitl [HA HI]
        · rw [show scr2 (V main_v5) (V main_v12) (n + 1) = (k2_pay5 (V main_v5) (kblk2 (V main_v12) none2 t) (scr2 (V main_v5) (V main_v12) n).1 (scr2 (V main_v5) (V main_v12) n).1,
            k2_pay6 (grid2.coords t) (V main_v5) (kblk2 (V main_v12) none2 t) (scr2 (V main_v5) (V main_v12) n).1 (scr2 (V main_v5) (V main_v12) n).2) from by
            rw [et]; exact if_pos hl]
          isplitl [HA]; · iexact HA
          iexact HI
        · iexact HR
      isplitl [Ho]; · iexact Ho
      isplitl [H0]; · iexact H0
      isplitl [H1]
      · iexists none2
        change _ ⊢ owns (c : Thread nD τ) (stage2_1 (cfg2.slots t 1)) fullShare (win2_1.fill (grid2.coords t) none2 (win2_1.cut (grid2.coords t) (kblk2 (V main_v12) none2 t)))
        rw [keep2]
      isplitl [H2]
      · iexists Y2; isplitr; · ipureintro; intro h; omega
        iexact H2
      · iexists Y3; isplitr; · ipureintro; intro h; omega
        iexact H3
    · have hn' : n = 487 := by omega
      subst hn'
      iapply (body2_last (F := F) (U := U) c Set.univ (grid2.coords t) (cfg2.slots t 0) (cfg2.slots t 1) (cfg2.slots t 2) (cfg2.slots t 3)
        (by omega) (V main_v5) (kblk2 (V main_v12) d1 t) (scr2 (V main_v5) (V main_v12) 487).1 (scr2 (V main_v5) (V main_v12) 487).2 Y2 Y3 _)
      isplitl [H0 H1 HA HI H2 H3]
      · isplitl [H0]; · iexact H0
        isplitl [H1]; · iexact H1
        isplitl [HA]; · iexact HA
        isplitl [HI]; · iexact HI
        isplitl [H2]; · iexact H2
        iexact H3
      iintro ⟨H0, H1, HA, HI, H2, H3⟩
      isplitl [HA HI HR]
      · isplitl [HA HI]
        · rw [show scr2 (V main_v5) (V main_v12) (487 + 1) = scr2 (V main_v5) (V main_v12) 487 from if_neg (by omega)]
          isplitl [HA]; · iexact HA
          iexact HI
        · iexact HR
      isplitl [Ho]; · iexact Ho
      isplitl [H0]; · iexact H0
      isplitl [H1]
      · iexists d1
        change _ ⊢ owns (c : Thread nD τ) (stage2_1 (cfg2.slots t 1)) fullShare (win2_1.fill (grid2.coords t) d1 (win2_1.cut (grid2.coords t) (kblk2 (V main_v12) none2 t)))
        rw [keep2]
      isplitl [H2]
      · iexists _; isplitr; swap
        · iexact H2
        ipureintro; intro _; exact ⟨d1, by rw [et]; rfl⟩
      · iexists _; isplitr; swap
        · iexact H3
        ipureintro; intro _; exact ⟨d1, by rw [et]; rfl⟩

end Cert.KProof

end
-- ==== Proof.Record.lean ====
/- A call as a segment of the program: its record between two states of all unscoped buffers, from its proof data. -/
module

public import proofs.«01_k».proof.Proof.Region0
public import proofs.«01_k».proof.Proof.Region1
public import proofs.«01_k».proof.Proof.Region2
public import proofs.«01_k».proof.Proof.Gen.KernelIdeal.Launch
public import Idealize.ShloMosaic.Lib.Pipeline.Regions
public import Idealize.ShloMosaic.Lib.Pipeline.RegionArraysF
public import Idealize.ShloMosaic.Lib.Pipeline.FrameSuffix
public import Idealize.ShloMosaic.Lib.Pipeline.RegionsForgetR
public import Idealize.ShloMosaic.Lib.Pipeline.RegionsForgetLinks
public import Idealize.ShloMosaic.Lib.Pipeline.RegionsCase

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf arrRef arrRefs ucRefs pin)

variable {F : FTy → Type} [FloatOps F]
variable {U : Type} [URA U]

local notation "𝕄" => MT nD τ sig Unit (Elt F) ℕ U ℕ

/-- No table is prefetched. -/
abbrev adm : (p : Fin 3) → (pcfgs (F := F) p).Adm := fun p => (cfgs p).toPCfg_adm
/-- No core owes another anything. -/
abbrev lvlSet : GSem nD τ sig → Finset Unit := fun _ => ∅
abbrev lvlOf : GSem nD τ sig → Unit → ℕ := fun _ _ => 0

/-- Nothing owed. -/
abbrev noDebt (c : Dev nD) : sProp 𝕄 := iprop(∃ W, owes (c.tc : Thread nD τ) (0 : CellTallies nD τ sig Unit) W)

/-- What a call leaves: its arrays at contents that its windows' writes allow, every other buffer as it was. -/
def After (p : Fin 3) (rd : (p : Fin 3) → (c : Dev nD) → RDat τ (Elt F) Unit ℕ U ℕ (pin (pcfgs (F := F)) adm p) c)
    (c : Dev nD) (V V' : Valuation τ sig (Elt F)) : Prop :=
  (∀ w, (rd p c).ArrAt w (pin (pcfgs (F := F)) adm p).N (V' (Proc.devRef .tc (arrRef (pcfgs (F := F) p).spec w))))
    ∧ ∀ b : Ref sig .tc, (∀ w, arrRef (pcfgs (F := F) p).spec w ≠ b) → V' (Proc.devRef .tc b) = V (Proc.devRef .tc b)

section Rec

variable (pd : (p : Fin 3) → (c : Dev nD) → Dat τ (Elt F) Unit ℕ U ℕ (pin (pcfgs (F := F)) adm p) c)
variable (fg : (p : Fin 3) → Fin (pin (pcfgs (F := F)) adm p).W → Bool)
variable (rl : (p : Fin 3) → (w : Fin (pin (pcfgs (F := F)) adm p).W) → Fin (pin (pcfgs (F := F)) adm p).N →
  (((pin (pcfgs (F := F)) adm p).win w).block.Idx → Elt F ((pin (pcfgs (F := F)) adm p).win w).elt) → Prop)

/-- The proof data read relationally. -/
abbrev rdOf (p : Fin 3) (c : Dev nD) : RDat τ (Elt F) Unit ℕ U ℕ (pin (pcfgs (F := F)) adm p) c := (pd p c).toRRel (fg p) (rl p)

/-- The arrays after the call: at some contents that the windows' writes allow. -/
theorem arrays_after (p : Fin 3) (c : Dev nD) (n : ℕ) :
    ((rdOf pd fg rl p c).arraysAt n : sProp 𝕄) ⊢ iprop(∃ A : (w : Fin (pin (pcfgs (F := F)) adm p).W) → Buf (Elt F) (((pin (pcfgs (F := F)) adm p).win w).arr.view.loc (c.tc : Thread nD τ)),
      ⌜∀ w, (rdOf pd fg rl p c).ArrAt w n (A w)⌝ ∗ (pd p c).arrays A) := by
  unfold RDat.arraysAt Dat.arrays
  refine (BI.bigSep_exists_pi Finset.univ _).trans ?_
  iintro ⟨%A, H⟩
  ihave H' := (BI.bigSep_pure_sep Finset.univ (fun w => (rdOf pd fg rl p c).ArrAt w n (A w)) _) $$ H
  icases H' with ⟨%hA, H⟩
  iexists A
  isplitr
  · ipureintro; exact fun w => hA w (Finset.mem_univ w)
  iexact H

/-- Everything that `A` holds of, `B` holds of. -/
structure Gives (A B : sProp 𝕄) : Prop where
  out : A ⊢ B

/-- The record of the call `p`, entered with every unscoped buffer at `V`. -/
def callRec (p : Fin 3) (kit : Pipeline.PLaunchFacts (nD := nD) (τ := τ) (pcfgs (F := F)) p) (V : Valuation τ sig (Elt F))
    (hbody : ∀ c, (rdOf pd fg rl p c).BodyObligation (defs₀ (F := F)) 𝒱₀ () Set.univ)
    (howed : ∀ c t, (pd p c).owed t = 0) (hrec : ∀ c, (pd p c).recorded 0 = Set.univ)
    (hshare : ∀ c w, (pd p c).share w = fullShare)
    (hA : ∀ c w, (pd p c).A w = V (Proc.devRef .tc (arrRef (pcfgs (F := F) p).spec w)))
    (hin : ∀ c, Gives (F := F) (U := U) (Pipeline.scopedRest (Ix := Unit) (Name := ℕ) (U := U) (Lvl := ℕ) (Val := Elt F) (pin (pcfgs (F := F)) adm p).spec c) ((pd p c).Φ 0))
    (Inv : Dev nD → ℕ → sProp 𝕄) (hInv : ∀ c t, (pd p c).Φ t = Inv c t.val)
    (hout : ∀ c n, Gives (F := F) (U := U) (Inv c n) (Pipeline.scopedRest (Ix := Unit) (Name := ℕ) (U := U) (Lvl := ℕ) (Val := Elt F) (pin (pcfgs (F := F)) adm p).spec c)) :
    RDat.RegionSeg (pcfgs (F := F)) adm (rdOf pd fg rl) () (defs₀ (F := F)) 𝒱₀ lvlSet lvlOf p where
  win := kit.to₀.win
  block_pos := kit.to₀.block_pos
  stage_whole := kit.to₀.stage_whole
  K := PEmpty
  osem := fun k => k.elim
  ho := Pipeline.OwnSemFacts.none _
  hbody := hbody
  hwaits c := (show _ ⊢ (BI.emp : sProp 𝕄) from by iintro -; iempintro).trans (RDat.cellsWaits_of_owed_zero (pin (pcfgs (F := F)) adm) (rdOf pd fg rl) () p c (howed c))
  pre c := iprop(StableHlo.held (c.tc : Thread nD τ) (ucRefs τ sig) V ∗ noDebt c)
  post c := iprop(∃ V', StableHlo.held (c.tc : Thread nD τ) (ucRefs τ sig) V' ∗ ⌜After p (rdOf pd fg rl) c V V'⌝ ∗ noDebt c)
  X c := iprop(emp)
  Y c := iprop(emp)
  Z c := StableHlo.held (c.tc : Thread nD τ) (ucRefs τ sig \ arrRefs (pcfgs (F := F) p).spec) V
  hentry c := by
    show _ ⊢ |={Set.univ}=> iprop((pd p c).arrays (pd p c).A ∗ Pipeline.prefHeld (pcfgs (F := F) p).pre c (fun _ => fullShare) (adm (F := F) p).1
        ∗ (pd p c).owesAt () 0 ∗ _ ∗ _)
    rw [Pipeline.prefHeld_of_none _ rfl,
      Pipeline.arrays_held (pcfgs (F := F)) adm pd p kit c (hshare c) (pd p c).A V (hA c),
      StableHlo.held_sub_split (c.tc : Thread nD τ) (Pipeline.arrRefs_sub_ucRefs (τ := τ) (pcfgs (F := F) p).spec kit.win.arr_unscoped) V]
    iintro ⟨⟨⟨Ha, Hr⟩, HO⟩, -, -⟩
    imodintro
    isplitl [Ha]; · iexact Ha
    isplitr; · iempintro
    isplitl [HO]
    · unfold Dat.owesAt Pipeline.owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ (Pipeline.scopedRest (Ix := Unit) (Name := ℕ) (U := U) (Lvl := ℕ) (Val := Elt F) (pin (pcfgs (F := F)) adm p).spec c : sProp 𝕄) from by
    iintro ⟨-, -, Hr⟩; iexact Hr).trans (hin c).out
  hout c := (Entails.of_eq (hInv c _)).trans <| (hout c _).out.trans (by
    rw [Pipeline.ownSems0_none]
    iintro Hr
    isplitr; · iempintro
    isplitr; · iempintro
    iexact Hr)
  hexit c := by
    show iprop((rdOf pd fg rl p c).arraysAt (pin (pcfgs (F := F)) adm p).N ∗ (pd p c).owesAt () (Fin.last (pin (pcfgs (F := F)) adm p).N) ∗ _ ∗ _) ⊢ _
    iintro ⟨Ha, HO, -, Hr⟩
    ihave Ha := (arrays_after pd fg rl p c (pin (pcfgs (F := F)) adm p).N) $$ Ha
    icases Ha with ⟨%A, %hA', Ha⟩
    imodintro
    have hw1 := fun w => Pipeline.withArrays_arr (pcfgs (F := F) p).spec kit.win.arr_inj c V A w
    have hw2 := fun b hb => Pipeline.withArrays_of_ne (pcfgs (F := F) p).spec c V A b hb
    iexists (Pipeline.withArrays (pcfgs (F := F) p).spec c V A)
    rw [StableHlo.held_sub_split (c.tc : Thread nD τ) (Pipeline.arrRefs_sub_ucRefs (τ := τ) (pcfgs (F := F) p).spec kit.win.arr_unscoped) (Pipeline.withArrays (pcfgs (F := F) p).spec c V A),
      ← Pipeline.arrays_held (pcfgs (F := F)) adm pd p kit c (hshare c) A (Pipeline.withArrays (pcfgs (F := F) p).spec c V A) (fun w => (hw1 w).symm),
      StableHlo.held_congr (c.tc : Thread nD τ) (S := ucRefs τ sig \ arrRefs (pcfgs (F := F) p).spec) (V := Pipeline.withArrays (pcfgs (F := F) p).spec c V A) (V' := V)
        (fun b hb => by
          obtain ⟨h1, h2⟩ := Finset.mem_sdiff.mp hb
          obtain ⟨r, -, rfl⟩ := Finset.mem_map.mp (Finset.mem_filter.mp h1).1
          exact hw2 r fun w e => h2 (Finset.mem_map.mpr ⟨r, Finset.mem_image.mpr ⟨w, Finset.mem_univ _, e⟩, rfl⟩))]
    isplitl [Ha Hr]
    · isplitl [Ha]; · iexact Ha
      iexact Hr
    isplitr
    · ipureintro
      refine ⟨fun w => ?_, hw2⟩
      rw [hw1 w]; exact hA' w
    unfold Dat.owesAt Pipeline.owesWithin
    rw [howed c (Fin.last _)]
    icases HO with ⟨%Wd, -, HO⟩; iexists Wd; iexact HO

end Rec

/-! ## The three calls -/

/-- The proof data of the three calls at entry contents `V`, the windows held to a predicate, the predicates. -/
def pdV (V : Valuation τ sig (Elt F)) : (p : Fin 3) → (c : Dev nD) → Dat τ (Elt F) Unit ℕ U ℕ (pin (pcfgs (F := F)) adm p) c
  | ⟨0, _⟩ => dat0 V
  | ⟨1, _⟩ => dat1 V
  | ⟨2, _⟩ => dat2 V
def fgV : (p : Fin 3) → Fin (pin (pcfgs (F := F)) adm p).W → Bool
  | ⟨0, _⟩ => fgt0
  | ⟨1, _⟩ => fgt1
  | ⟨2, _⟩ => fgt2
def rlV (V : Valuation τ sig (Elt F)) : (p : Fin 3) → (w : Fin (pin (pcfgs (F := F)) adm p).W) → Fin (pin (pcfgs (F := F)) adm p).N →
    (((pin (pcfgs (F := F)) adm p).win w).block.Idx → Elt F ((pin (pcfgs (F := F)) adm p).win w).elt) → Prop
  | ⟨0, _⟩ => rel0 V
  | ⟨1, _⟩ => rel1
  | ⟨2, _⟩ => rel2 V

abbrev rdV (V : Valuation τ sig (Elt F)) : (p : Fin 3) → (c : Dev nD) → RDat τ (Elt F) Unit ℕ U ℕ (pin (pcfgs (F := F)) adm p) c :=
  rdOf (pdV V) fgV (rlV V)

/-- The scratch of the first call given back. -/
theorem give0 (V : Valuation τ sig (Elt F)) (c : Dev nD) (n : ℕ) :
    Inv0 (U := U) V c (n + 1) ⊢ (Pipeline.scopedRest (Ix := Unit) (Name := ℕ) (U := U) (Lvl := ℕ) (Val := Elt F) spec0 c : sProp 𝕄) := by
  rw [rest0_split c, inv0_succ]
  simp only [owns_whole_eq]
  iintro ⟨⟨⟨%f0, %h0, H0⟩, ⟨%f1, %h1, H1⟩⟩, HR⟩
  isplitr [HR]
  · isplitl [H0]
    · iexists _; iexact H0
    iexists _; iexact H1
  iexact HR

/-- The scratch of the third call given back. -/
theorem give2 (V : Valuation τ sig (Elt F)) (c : Dev nD) (n : ℕ) :
    Inv2 (U := U) V c (n + 1) ⊢ (Pipeline.scopedRest (Ix := Unit) (Name := ℕ) (U := U) (Lvl := ℕ) (Val := Elt F) spec2 c : sProp 𝕄) := by
  rw [rest2_split c, inv2_succ]
  simp only [owns_whole_eq]
  iintro ⟨⟨⟨%f0, %h0, H0⟩, ⟨%f1, %h1, H1⟩⟩, HR⟩
  isplitr [HR]
  · isplitl [H0]
    · iexists _; iexact H0
    iexists _; iexact H1
  iexact HR

end Cert.KProof
end
-- ==== Proof.Calls.lean ====
/- The three calls' records. -/
module

public import proofs.«01_k».proof.Proof.Record

@[expose] public section

set_option maxHeartbeats 40000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf arrRef arrRefs ucRefs pin)

variable {F : FTy → Type} [FloatOps F]
variable {U : Type} [URA U]

local notation "𝕄" => MT nD τ sig Unit (Elt F) ℕ U ℕ

/-- The facts of the three calls' data, as the record asks for them. -/
theorem body0_at (V : Valuation τ sig (Elt F)) (c : Dev nD) : (rdV (U := U) V 0 c).BodyObligation (defs₀ (F := F)) 𝒱₀ () Set.univ := (obl0 V c).toRRel
theorem body1_at (V : Valuation τ sig (Elt F)) (c : Dev nD) : (rdV (U := U) V 1 c).BodyObligation (defs₀ (F := F)) 𝒱₀ () Set.univ := (obl1 V c).toRRel
theorem body2_at (V : Valuation τ sig (Elt F)) (c : Dev nD) : (rdV (U := U) V 2 c).BodyObligation (defs₀ (F := F)) 𝒱₀ () Set.univ := (obl2 V c).toRRel
theorem owed_at (V : Valuation τ sig (Elt F)) : ∀ p c t, (pdV (U := U) V p c).owed t = 0
  | ⟨0, _⟩, _, _ => rfl
  | ⟨1, _⟩, _, _ => rfl
  | ⟨2, _⟩, _, _ => rfl
theorem recorded_at (V : Valuation τ sig (Elt F)) : ∀ p c, (pdV (U := U) V p c).recorded 0 = Set.univ
  | ⟨0, _⟩, _ => rfl
  | ⟨1, _⟩, _ => rfl
  | ⟨2, _⟩, _ => rfl
theorem share_at (V : Valuation τ sig (Elt F)) : ∀ p c w, (pdV (U := U) V p c).share w = fullShare
  | ⟨0, _⟩, c, w => (dat0 (U := U) V c).share_full (fun _ => rfl) w
  | ⟨1, _⟩, c, w => (dat1 (U := U) V c).share_full (fun _ => rfl) w
  | ⟨2, _⟩, c, w => (dat2 (U := U) V c).share_full (fun _ => rfl) w
theorem entry_at (V : Valuation τ sig (Elt F)) : ∀ p c w, (pdV (U := U) V p c).A w = V (Proc.devRef .tc (arrRef (pcfgs (F := F) p).spec w))
  | ⟨0, _⟩, _, _ => rfl
  | ⟨1, _⟩, _, _ => rfl
  | ⟨2, _⟩, _, _ => rfl

/-- The scoped buffers that no window stages, spelt at the call's own windows. -/
abbrev restAt (p : Fin 3) (c : Dev nD) : sProp 𝕄 :=
  Pipeline.scopedRest (Ix := Unit) (Name := ℕ) (U := U) (Lvl := ℕ) (Val := Elt F) (pin (pcfgs (F := F)) adm p).spec c
theorem rest0_at (c : Dev nD) : restAt (F := F) (U := U) 0 c = Pipeline.scopedRest (Ix := Unit) (Name := ℕ) (U := U) (Lvl := ℕ) (Val := Elt F) spec0 c :=
  congrArg (fun s => Pipeline.scopedRest (Ix := Unit) (Name := ℕ) (U := U) (Lvl := ℕ) (Val := Elt F) s c) (rfl : (pin (pcfgs (F := F)) adm 0).spec = spec0)
theorem rest1_at (c : Dev nD) : restAt (F := F) (U := U) 1 c = Pipeline.scopedRest (Ix := Unit) (Name := ℕ) (U := U) (Lvl := ℕ) (Val := Elt F) spec1 c :=
  congrArg (fun s => Pipeline.scopedRest (Ix := Unit) (Name := ℕ) (U := U) (Lvl := ℕ) (Val := Elt F) s c) (rfl : (pin (pcfgs (F := F)) adm 1).spec = spec1)
theorem rest2_at (c : Dev nD) : restAt (F := F) (U := U) 2 c = Pipeline.scopedRest (Ix := Unit) (Name := ℕ) (U := U) (Lvl := ℕ) (Val := Elt F) spec2 c :=
  congrArg (fun s => Pipeline.scopedRest (Ix := Unit) (Name := ℕ) (U := U) (Lvl := ℕ) (Val := Elt F) s c) (rfl : (pin (pcfgs (F := F)) adm 2).spec = spec2)

theorem inv0_at (V : Valuation τ sig (Elt F)) (c : Dev nD) (t : Fin ((pin (pcfgs (F := F)) adm 0).N + 1)) : (pdV (U := U) V 0 c).Φ t = Inv0 V c t.val := rfl
theorem inv2_at (V : Valuation τ sig (Elt F)) (c : Dev nD) (t : Fin ((pin (pcfgs (F := F)) adm 2).N + 1)) : (pdV (U := U) V 2 c).Φ t = Inv2 V c t.val := rfl
theorem inv1_at (V : Valuation τ sig (Elt F)) (c : Dev nD) (t : Fin ((pin (pcfgs (F := F)) adm 1).N + 1)) :
    (pdV (U := U) V 1 c).Φ t = Pipeline.scopedRest (Ix := Unit) (Name := ℕ) (U := U) (Lvl := ℕ) (Val := Elt F) spec1 c := rfl

theorem start0_at (V : Valuation τ sig (Elt F)) (c : Dev nD) : Gives (F := F) (U := U) (restAt 0 c) ((pdV (U := U) V 0 c).Φ 0) :=
  ⟨Entails.of_eq ((rest0_at c).trans (inv0_at V c 0).symm)⟩
theorem start1_at (V : Valuation τ sig (Elt F)) (c : Dev nD) : Gives (F := F) (U := U) (restAt 1 c) ((pdV (U := U) V 1 c).Φ 0) :=
  ⟨Entails.of_eq ((rest1_at c).trans (inv1_at V c 0).symm)⟩
theorem start2_at (V : Valuation τ sig (Elt F)) (c : Dev nD) : Gives (F := F) (U := U) (restAt 2 c) ((pdV (U := U) V 2 c).Φ 0) :=
  ⟨Entails.of_eq ((rest2_at c).trans (inv2_at V c 0).symm)⟩

theorem stop0_at (V : Valuation τ sig (Elt F)) (c : Dev nD) (n : ℕ) : Gives (F := F) (U := U) (Inv0 (U := U) V c n) (restAt 0 c) := by
  constructor
  rw [rest0_at]
  cases n with
  | zero => exact Entails.of_eq rfl
  | succ n => exact give0 (F := F) (U := U) V c n
theorem stop1_at (c : Dev nD) (_ : ℕ) : Gives (F := F) (U := U) (Pipeline.scopedRest (Ix := Unit) (Name := ℕ) (U := U) (Lvl := ℕ) (Val := Elt F) spec1 c) (restAt 1 c) := by
  constructor
  rw [rest1_at]
theorem stop2_at (V : Valuation τ sig (Elt F)) (c : Dev nD) (n : ℕ) : Gives (F := F) (U := U) (Inv2 (U := U) V c n) (restAt 2 c) := by
  constructor
  rw [rest2_at]
  cases n with
  | zero => exact Entails.of_eq rfl
  | succ n => exact give2 (F := F) (U := U) V c n

/-- The records. -/
def call0 (V : Valuation τ sig (Elt F)) : RDat.RegionSeg (U := U) (pcfgs (F := F)) adm (rdV V) () (defs₀ (F := F)) 𝒱₀ lvlSet lvlOf 0 :=
  callRec (pdV V) fgV (rlV V) 0 launch0.toP V (body0_at (F := F) (U := U) V) (owed_at (F := F) (U := U) V 0) (recorded_at (F := F) (U := U) V 0)
    (share_at (F := F) (U := U) V 0) (entry_at (F := F) (U := U) V 0) (start0_at (F := F) (U := U) V)
    (Inv0 V) (inv0_at (F := F) (U := U) V) (stop0_at (F := F) (U := U) V)
def call1 (V : Valuation τ sig (Elt F)) : RDat.RegionSeg (U := U) (pcfgs (F := F)) adm (rdV V) () (defs₀ (F := F)) 𝒱₀ lvlSet lvlOf 1 :=
  callRec (pdV V) fgV (rlV V) 1 launch1.toP V (body1_at (F := F) (U := U) V) (owed_at (F := F) (U := U) V 1) (recorded_at (F := F) (U := U) V 1)
    (share_at (F := F) (U := U) V 1) (entry_at (F := F) (U := U) V 1) (start1_at (F := F) (U := U) V)
    (fun c _ => Pipeline.scopedRest (Ix := Unit) (Name := ℕ) (U := U) (Lvl := ℕ) (Val := Elt F) spec1 c) (inv1_at (F := F) (U := U) V) (stop1_at (F := F) (U := U))
def call2 (V : Valuation τ sig (Elt F)) : RDat.RegionSeg (U := U) (pcfgs (F := F)) adm (rdV V) () (defs₀ (F := F)) 𝒱₀ lvlSet lvlOf 2 :=
  callRec (pdV V) fgV (rlV V) 2 launch2.toP V (body2_at (F := F) (U := U) V) (owed_at (F := F) (U := U) V 2) (recorded_at (F := F) (U := U) V 2)
    (share_at (F := F) (U := U) V 2) (entry_at (F := F) (U := U) V 2) (start2_at (F := F) (U := U) V)
    (Inv2 V) (inv2_at (F := F) (U := U) V) (stop2_at (F := F) (U := U) V)

end Cert.KProof
end
-- ==== Proof.Run.lean ====
/- The run of the whole program: from any memory it ends, and the final memory stands in the relation that its stretches, its calls and its branch compose. -/
module

public import proofs.«01_k».proof.Proof.Calls
public import Idealize.ShloMosaic.Lib.HostLoop.Lifted
public import Idealize.ShloMosaic.Lib.HostLoop.Plain

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat RDat Cfg Window cellOf arrRef arrRefs ucRefs pin CSeg CaseSeg Ticket)

variable {F : FTy → Type} [FloatOps F]

/-- One copy of the pipelines' algebra for each call, beside the counters. -/
abbrev UU : Type := IProdConst (Fin 3) (UR sig nD τ) × Counters

local notation "𝕄" => MT nD τ sig Unit (Elt F) ℕ UU ℕ

/-! ## The state between two items -/

/-- What is known of the buffers at one place of the program. -/
abbrev Know : Type := Dev nD → Valuation τ sig (Elt F) → Prop

/-- Every unscoped buffer whole, at contents of which `I` holds; nothing owed. -/
abbrev St (I : Know (F := F)) (c : Dev nD) : sProp 𝕄 :=
  iprop(∃ V, held (c.tc : Thread nD τ) (ucRefs τ sig) V ∗ ⌜I c V⌝ ∗ noDebt c)

/-- After a stretch of operations. -/
def afterOps (ops : List (HloOp τ sig (Elt F))) (I : Know (F := F)) : Know (F := F) := fun c V' => ∃ V, I c V ∧ V' = after ops V
/-- After a call. -/
def afterCall (p : Fin 3) (I : Know (F := F)) : Know (F := F) := fun c V' => ∃ V, I c V ∧ After p (rdV (U := UU) V) c V V'

/-- Proof data that no call reads. -/
def idle {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The three calls' tickets. -/
abbrev tk (j : Fin 3) : Ticket (Ix := Unit) (Name := ℕ) (U := UU) (Lvl := ℕ) (nD := nD) (τ := τ) (pcfgs (F := F)) adm :=
  { p := j, pdats := fun _ c => idle c, EP := embAt j }

abbrev loops : Fin 0 → Prog (TpuEff nD τ sig (Elt F) (HostLoop.Sig (Pipeline.Sig Λ₀ (Fin 3) fun p => (pcfgs (F := F) p).Adm) 0) .tc) PUnit := fun l => l.elim0

abbrev KSeg : Type 1 := CSeg (pcfgs (F := F)) adm defs₀ 𝒱₀ lvlSet lvlOf loops (tk (F := F))

theorem ops_sub {ops : List (HloOp τ sig (Elt F))} (h : ops.Forall fun op => op.bufs ⊆ StableHlo.tcRefs τ sig) : ∀ op ∈ ops, op.bufs ⊆ ucRefs τ sig :=
  fun op hm => Pipeline.sub_ucRefs op ((List.forall_iff_forall_mem.mp h) op hm)

/-- A stretch as a segment, entered knowing `I`. -/
def opsSeg (ops : List (HloOp τ sig (Elt F))) (hS : ops.Forall fun op => op.bufs ⊆ StableHlo.tcRefs τ sig) (hf : ∀ op ∈ ops, op.fresh = ∅) (I : Know (F := F)) : KSeg (F := F) :=
  CSeg.exSel (fun V c => I c V) (fun V => CSeg.ofOps _ _ _ _ _ _ _ _ (ucRefs τ sig) ops (ops_sub hS) hf (fun _ => V) noDebt)
    (StableHlo.seq ops) (fun _ => rfl) 0 (fun _ => le_rfl) ∅ (fun _ => rfl)

theorem opsSeg_pre (ops : List (HloOp τ sig (Elt F))) (hS hf) (I : Know (F := F)) (c : Dev nD) : St I c ⊢ (opsSeg ops hS hf I).pre c := by
  show _ ⊢ iprop(∃ V, ⌜I c V⌝ ∗ (held (c.tc : Thread nD τ) (ucRefs τ sig) V ∗ noDebt c))
  iintro ⟨%V, Hh, %hV, HO⟩
  iexists V
  isplitr; · ipureintro; exact hV
  isplitl [Hh] <;> iassumption
theorem opsSeg_post (ops : List (HloOp τ sig (Elt F))) (hS hf) (I : Know (F := F)) (c : Dev nD) : (opsSeg ops hS hf I).post c ⊢ St (afterOps ops I) c := by
  show iprop(∃ V, ⌜I c V⌝ ∗ (held (c.tc : Thread nD τ) (ucRefs τ sig) (after ops V) ∗ noDebt c)) ⊢ _
  iintro ⟨%V, %hV, Hh, HO⟩
  iexists (after ops V)
  isplitl [Hh]; · iexact Hh
  isplitr; · ipureintro; exact ⟨V, hV, rfl⟩
  iexact HO

/-- The three calls' records. -/
def callJ (V : Valuation τ sig (Elt F)) : (j : Fin 3) → RDat.RegionSeg (U := UU) (pcfgs (F := F)) adm (rdV V) () (defs₀ (F := F)) 𝒱₀ lvlSet lvlOf j
  | ⟨0, _⟩ => call0 V
  | ⟨1, _⟩ => call1 V
  | ⟨2, _⟩ => call2 V
theorem callJ_pre (V : Valuation τ sig (Elt F)) (j : Fin 3) (c : Dev nD) :
    (callJ V j).pre c = iprop(held (c.tc : Thread nD τ) (ucRefs τ sig) V ∗ noDebt c) := by
  match j with
  | ⟨0, _⟩ => rfl
  | ⟨1, _⟩ => rfl
  | ⟨2, _⟩ => rfl
theorem callJ_post (V : Valuation τ sig (Elt F)) (j : Fin 3) (c : Dev nD) :
    (callJ V j).post c = iprop(∃ V', held (c.tc : Thread nD τ) (ucRefs τ sig) V' ∗ ⌜After j (rdV (U := UU) V) c V V'⌝ ∗ noDebt c) := by
  match j with
  | ⟨0, _⟩ => rfl
  | ⟨1, _⟩ => rfl
  | ⟨2, _⟩ => rfl

/-- A call as a segment, entered knowing `I`. -/
def callSeg (j : Fin 3) (I : Know (F := F)) : KSeg (F := F) :=
  CSeg.regionFR (pcfgs (F := F)) adm () cellOf_inj defs₀ 𝒱₀ lvlSet lvlOf loops (tk (F := F)) j (fun V : Valuation τ sig (Elt F) => rdV (U := UU) V) (fun V => callJ V j) (fun V c => I c V)

theorem callSeg_pre (j : Fin 3) (I : Know (F := F)) (c : Dev nD) : St I c ⊢ (callSeg j I).pre c := by
  show _ ⊢ iprop(∃ V, ⌜I c V⌝ ∗ (callJ V j).pre c)
  simp only [callJ_pre]
  iintro ⟨%V, Hh, %hV, HO⟩
  iexists V
  isplitr; · ipureintro; exact hV
  isplitl [Hh] <;> iassumption
theorem callSeg_post (j : Fin 3) (I : Know (F := F)) (c : Dev nD) : (callSeg j I).post c ⊢ St (afterCall j I) c := by
  show iprop(∃ V, ⌜I c V⌝ ∗ (callJ V j).post c) ⊢ _
  simp only [callJ_post]
  iintro ⟨%V, %hV, %V', Hh, %h, HO⟩
  iexists V'
  isplitl [Hh]; · iexact Hh
  isplitr; · ipureintro; exact ⟨V, hV, h⟩
  iexact HO

/-! ## The branch -/

/-- The operation whose element picks the arm. -/
abbrev rdOp : HloOp τ sig (Elt F) :=
  StableHlo.unary main_v42 main_v43 ((extui 32 · natLt_1_32) : (⟨S_, .i1⟩ : BufTy).Contents (Elt F) → (⟨S_, .i32⟩ : BufTy).Contents (Elt F))
/-- The arm that keeps the two calls' results, and what follows the exact search in the other. -/
abbrev keepOps : List (HloOp τ sig (Elt F)) :=
  [ StableHlo.reshape main_v13_0 main_case0b0_v45 (rfl : (.f32 : EltTy) = .f32) shapeCasts_S1024x1_S1024,
    StableHlo.reshape main_v37_0 main_case0b0_v46 (rfl : (.i32 : EltTy) = .i32) shapeCasts_S1024x1_S1024,
    StableHlo.unary main_case0b0_v45 main_v44_0 id,
    StableHlo.unary main_case0b0_v46 main_v44_1 id ]
abbrev fullOps : List (HloOp τ sig (Elt F)) :=
  [ StableHlo.reshape main_case0b1_v45_0 main_case0b1_v46 (rfl : (.f32 : EltTy) = .f32) shapeCasts_S1024x1_S1024,
    StableHlo.reshape main_case0b1_v45_1 main_case0b1_v47 (rfl : (.i32 : EltTy) = .i32) shapeCasts_S1024x1_S1024,
    StableHlo.unary main_case0b1_v46 main_v44_0 id,
    StableHlo.unary main_case0b1_v47 main_v44_1 id ]
theorem keepOps_sub : (keepOps : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub ..⟩
theorem fullOps_sub : (fullOps : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub ..⟩
theorem keepOps_fresh : ∀ op ∈ (keepOps : List (HloOp τ sig (Elt F))), op.fresh = ∅ := by
  intro _ h; (repeat (cases h with | head => rfl | tail _ h => ?_)); exact nomatch h
theorem fullOps_fresh : ∀ op ∈ (fullOps : List (HloOp τ sig (Elt F))), op.fresh = ∅ := by
  intro _ h; (repeat (cases h with | head => rfl | tail _ h => ?_)); exact nomatch h

/-- The TensorCore's programs over the calls' labels. -/
abbrev HProg (F : FTy → Type) [FloatOps F] (β : Type) : Type 1 := Prog (TpuEff nD τ sig (Elt F) (HostLoop.Sig (Pipeline.Sig Λ₀ (Fin 3) fun p => (pcfgs (F := F) p).Adm) 0) .tc) β

/-- The arms as printed, and the read. -/
abbrev armProg : Fin 2 → Prog (TpuEff nD τ sig (Elt F) (HostLoop.Sig (Pipeline.Sig Λ₀ (Fin 3) fun p => (pcfgs (F := F) p).Adm) 0) .tc) PUnit
  | 0 => do
      hlo rfl (StableHlo.reshape main_v13_0 main_case0b0_v45 (rfl : (.f32 : EltTy) = .f32) shapeCasts_S1024x1_S1024) (fun _ => .ret ⟨⟩)
      hlo rfl (StableHlo.reshape main_v37_0 main_case0b0_v46 (rfl : (.i32 : EltTy) = .i32) shapeCasts_S1024x1_S1024) (fun _ => .ret ⟨⟩)
      hlo rfl (StableHlo.unary main_case0b0_v45 main_v44_0 id) (fun _ => .ret ⟨⟩)
      hlo rfl (StableHlo.unary main_case0b0_v46 main_v44_1 id) (fun _ => .ret ⟨⟩)
      pure ⟨⟩
  | 1 => do
      Prog.lift (.customCall (HostLoop.inner (Pipeline.entry 2)) ())
      hlo rfl (StableHlo.reshape main_case0b1_v45_0 main_case0b1_v46 (rfl : (.f32 : EltTy) = .f32) shapeCasts_S1024x1_S1024) (fun _ => .ret ⟨⟩)
      hlo rfl (StableHlo.reshape main_case0b1_v45_1 main_case0b1_v47 (rfl : (.i32 : EltTy) = .i32) shapeCasts_S1024x1_S1024) (fun _ => .ret ⟨⟩)
      hlo rfl (StableHlo.unary main_case0b1_v46 main_v44_0 id) (fun _ => .ret ⟨⟩)
      hlo rfl (StableHlo.unary main_case0b1_v47 main_v44_1 id) (fun _ => .ret ⟨⟩)
      pure ⟨⟩
  | ⟨_ + 2, h⟩ => absurd h (Nat.not_lt.2 (Nat.le_add_left _ _))
abbrev rdProg : Prog (TpuEff nD τ sig (Elt F) (HostLoop.Sig (Pipeline.Sig Λ₀ (Fin 3) fun p => (pcfgs (F := F) p).Adm) 0) .tc) (BitVec 32) := hlo rfl (rdOp (F := F)) (HostLoop.elt main_v43)

/-- The word that the read returns. -/
abbrev wordOf (V1 : Valuation τ sig (Elt F)) : BitVec 32 := V1 main_v43 HostLoop.idx0
/-- After the read, the word being `v`; the word naming the arm `b`; after the branch. -/
def readWord (I : Know (F := F)) (v : BitVec 32) : Know (F := F) := fun c V1 => afterOps [rdOp] I c V1 ∧ v = wordOf V1
def readArm (I : Know (F := F)) (b : Fin 2) : Know (F := F) := fun c V1 => afterOps [rdOp] I c V1 ∧ b = HostLoop.branch (wordOf V1) 1
def afterCase (I : Know (F := F)) : Know (F := F) := fun c V' =>
  afterOps keepOps (readArm I 0) c V' ∨ afterOps fullOps (afterCall 2 (readArm I 1)) c V'

theorem St_mono {I J : Know (F := F)} (c : Dev nD) (h : ∀ V, I c V → J c V) : St I c ⊢ St J c := by
  iintro ⟨%V, Hh, %hV, HO⟩
  iexists V
  isplitl [Hh]; · iexact Hh
  isplitr; · ipureintro; exact h V hV
  iexact HO

/-- The arms' segments. -/
abbrev armSegs (I : Know (F := F)) : Fin 2 → List (KSeg (F := F))
  | 0 => [opsSeg keepOps keepOps_sub keepOps_fresh (readArm I 0)]
  | 1 => [callSeg 2 (readArm I 1), opsSeg fullOps fullOps_sub fullOps_fresh (afterCall 2 (readArm I 1))]

theorem arm_chain (I : Know (F := F)) (c : Dev nD) (v : BitVec 32) : ∀ b : Fin 2, b = HostLoop.branch v 1 →
    CSeg.ChainsAt c (St (readWord I v)) (armSegs I b) (St (afterCase I))
  | 0, hb => ⟨(St_mono (J := readArm I 0) c fun V h => ⟨h.1, hb.trans (by rw [h.2])⟩).trans (opsSeg_pre _ _ _ _ c),
      (opsSeg_post _ _ _ _ c).trans (St_mono c fun _ h => .inl h)⟩
  | 1, hb => ⟨(St_mono (J := readArm I 1) c fun V h => ⟨h.1, hb.trans (by rw [h.2])⟩).trans (callSeg_pre _ _ c),
      (callSeg_post _ _ c).trans (opsSeg_pre _ _ _ _ c), (opsSeg_post _ _ _ _ c).trans (St_mono c fun _ h => .inr h)⟩

set_option backward.isDefEq.respectTransparency.types false in
theorem read_spec (I : Know (F := F)) (c : Dev nD) (bd : Option (Variants.lift 𝒱₀).V) :
    iprop(boundary (c : Thread nD τ) ∗ St I c)
      ⊢ wp frame (wpE (HostLoop.defs loops (Pipeline.defs (pcfgs (F := F)) defs₀)) (Variants.lift 𝒱₀) (c : Thread nD τ) bd) Set.univ (rdProg (F := F))
          (fun v => iprop(⌜True⌝ ∗ boundary (c : Thread nD τ) ∗ St (readWord I v) c)) := by
  unfold rdProg
  iintro ⟨Hb, ⟨%V, Hh, %hV, HR⟩⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  iexists (after [rdOp] V)
  isplitl [Hh]; · rw [StableHlo.after_cons, StableHlo.after_nil]; iexact Hh
  isplitr; · ipureintro; exact ⟨⟨V, hV, rfl⟩, rfl⟩
  iexact HR

/-- The branch's record. -/
def caseW (I : Know (F := F)) : CaseSeg (pcfgs (F := F)) adm defs₀ 𝒱₀ lvlSet lvlOf loops (tk (F := F)) :=
  { on := fun _ => True
    N := 1
    rd := rdProg
    br := armProg
    pre := St I
    mid := fun v => St (readWord I v)
    post := St (afterCase I)
    live := fun _ => True
    hrd := fun c _ bd => read_spec I c bd
    segs := armSegs I
    hch := fun c _ v _ => arm_chain I c v _ rfl
    hbr := fun b _ => by fin_cases b <;> chain_rfl
    B := (pin (pcfgs (F := F)) adm 2).tripCount + 1
    hM := fun b _ s hs => by
      fin_cases b
      · obtain rfl := List.mem_singleton.mp hs; exact Nat.zero_le _
      · rcases List.mem_cons.mp hs with rfl | hs
        · exact le_rfl
        · obtain rfl := List.mem_singleton.mp hs; exact Nat.zero_le _
    T := {2}
    hT := fun b _ s hs => by
      fin_cases b
      · obtain rfl := List.mem_singleton.mp hs; exact Finset.empty_subset _
      · rcases List.mem_cons.mp hs with rfl | hs
        · exact subset_rfl
        · obtain rfl := List.mem_singleton.mp hs; exact Finset.empty_subset _
    hdisT := fun b _ => by
      fin_cases b
      · exact List.pairwise_singleton ..
      · exact List.pairwise_pair.mpr (Finset.disjoint_empty_right _) }

/-- The branch as a segment. -/
def caseSeg (I : Know (F := F)) : KSeg (F := F) := CSeg.case _ _ _ _ _ _ _ _ (caseW I)
theorem caseSeg_pre (I : Know (F := F)) (c : Dev nD) : St I c ⊢ (caseSeg I).pre c := CSeg.case_pre _ _ _ _ _ _ _ _ (caseW I) trivial
theorem caseSeg_post (I : Know (F := F)) (c : Dev nD) : (caseSeg I).post c ⊢ St (afterCase I) c := .rfl

/-! ## The whole program as a list of segments -/

/-- A stretch of host operations with what its segment takes. -/
structure Stretch (F : FTy → Type) [FloatOps F] where
  ops : List (HloOp τ sig (Elt F))
  sub : ops.Forall fun op => op.bufs ⊆ StableHlo.tcRefs τ sig
  fresh : ∀ op ∈ ops, op.fresh = ∅

/-- The segments of stretches in order; what is known after them. -/
def stretchSegs : List (Stretch F) → Know (F := F) → List (KSeg (F := F))
  | [], _ => []
  | x :: l, I => opsSeg x.ops x.sub x.fresh I :: stretchSegs l (afterOps x.ops I)
def afterAll : List (Stretch F) → Know (F := F) → Know (F := F)
  | [], I => I
  | x :: l, I => afterAll l (afterOps x.ops I)

theorem chains_mono {T T₀ : Dev nD → sProp 𝕄} (h : ∀ c, T c ⊢ T₀ c) : ∀ {l : List (KSeg (F := F))} {T' : Dev nD → sProp 𝕄},
    CSeg.Chains T₀ l T' → CSeg.Chains T l T'
  | [], _, hl => fun c => (h c).trans (hl c)
  | _ :: _, _, hl => ⟨fun c => (h c).trans (hl.1 c), hl.2⟩

theorem chains_end {T' T'' : Dev nD → sProp 𝕄} (h : ∀ c, T' c ⊢ T'' c) : ∀ {l : List (KSeg (F := F))} {T : Dev nD → sProp 𝕄},
    CSeg.Chains T l T' → CSeg.Chains T l T''
  | [], _, hl => fun c => (hl c).trans (h c)
  | _ :: _, _, hl => ⟨hl.1, chains_end h hl.2⟩

theorem chains_stretches (rest : List (KSeg (F := F))) (T' : Dev nD → sProp 𝕄) : ∀ (l : List (Stretch F)) (I : Know (F := F)),
    CSeg.Chains (St (afterAll l I)) rest T' → CSeg.Chains (St I) (stretchSegs l I ++ rest) T'
  | [], _, h => h
  | x :: l, I, h => ⟨fun c => opsSeg_pre x.ops x.sub x.fresh I c,
      chains_mono (fun c => opsSeg_post x.ops x.sub x.fresh I c) (chains_stretches rest T' l (afterOps x.ops I) h)⟩

theorem stretch_tickets : ∀ (l : List (Stretch F)) (I : Know (F := F)), ∀ s ∈ stretchSegs l I, s.T = ∅
  | [], _, _, h => nomatch h
  | x :: l, I, s, h => by
    rcases List.mem_cons.mp h with rfl | h
    · rfl
    · exact stretch_tickets l _ s h

/-- The stretches before the first call, between the first two calls, and before the branch. -/
def pre0 : List (Stretch F) :=
  [ ⟨hostOps0, hostOps0_sub, by intro _ h; (repeat (cases h with | head => rfl | tail _ h => ?_)); exact nomatch h⟩,
    ⟨hostOps0_1, hostOps0_1_sub, by intro _ h; (repeat (cases h with | head => rfl | tail _ h => ?_)); exact nomatch h⟩,
    ⟨hostOps0_2, hostOps0_2_sub, by intro _ h; (repeat (cases h with | head => rfl | tail _ h => ?_)); exact nomatch h⟩,
    ⟨hostOps0_3, hostOps0_3_sub, by intro _ h; (repeat (cases h with | head => rfl | tail _ h => ?_)); exact nomatch h⟩ ]
def pre1 : List (Stretch F) :=
  [ ⟨hostOps1, hostOps1_sub, by intro _ h; (repeat (cases h with | head => rfl | tail _ h => ?_)); exact nomatch h⟩,
    ⟨hostOps1_1, hostOps1_1_sub, by intro _ h; (repeat (cases h with | head => rfl | tail _ h => ?_)); exact nomatch h⟩,
    ⟨hostOps1_2, hostOps1_2_sub, by intro _ h; (repeat (cases h with | head => rfl | tail _ h => ?_)); exact nomatch h⟩,
    ⟨hostOps1_3, hostOps1_3_sub, by intro _ h; (repeat (cases h with | head => rfl | tail _ h => ?_)); exact nomatch h⟩,
    ⟨hostOps1_4, hostOps1_4_sub, by intro _ h; (repeat (cases h with | head => rfl | tail _ h => ?_)); exact nomatch h⟩,
    ⟨hostOps1_5, hostOps1_5_sub, by intro _ h; (repeat (cases h with | head => rfl | tail _ h => ?_)); exact nomatch h⟩,
    ⟨hostOps1_6, hostOps1_6_sub, by intro _ h; (repeat (cases h with | head => rfl | tail _ h => ?_)); exact nomatch h⟩,
    ⟨hostOps1_7, hostOps1_7_sub, by intro _ h; (repeat (cases h with | head => rfl | tail _ h => ?_)); exact nomatch h⟩ ]
def pre2 : List (Stretch F) :=
  [ ⟨hostOps2, hostOps2_sub, by intro _ h; (repeat (cases h with | head => rfl | tail _ h => ?_)); exact nomatch h⟩ ]

variable (m : (ℓ : Loc nD τ sig) → Buf (Elt F) ℓ)

/-- What is known at launch; at the first call; after it; at the second; after it; at the branch; at the end. -/
def know0 : Know (F := F) := fun c V => V = fun b => m (c, b)
def know1 : Know (F := F) := afterAll pre0 (know0 m)
def know2 : Know (F := F) := afterCall 0 (know1 m)
def know3 : Know (F := F) := afterAll pre1 (know2 m)
def know4 : Know (F := F) := afterCall 1 (know3 m)
def know5 : Know (F := F) := afterAll pre2 (know4 m)
def know6 : Know (F := F) := afterCase (know5 m)

def segs : List (KSeg (F := F)) :=
  stretchSegs pre0 (know0 m) ++ callSeg 0 (know1 m) :: (stretchSegs pre1 (know2 m) ++ callSeg 1 (know3 m) :: (stretchSegs pre2 (know4 m) ++ [caseSeg (know5 m)]))

theorem segs_chain : CSeg.Chains (St (know0 m)) (segs m) (St (know6 m)) :=
  chains_stretches _ _ pre0 (know0 m) ⟨fun c => callSeg_pre 0 (know1 m) c,
    chains_mono (fun c => callSeg_post 0 (know1 m) c) (chains_stretches _ _ pre1 (know2 m) ⟨fun c => callSeg_pre 1 (know3 m) c,
      chains_mono (fun c => callSeg_post 1 (know3 m) c) (chains_stretches _ _ pre2 (know4 m) ⟨fun c => caseSeg_pre (know5 m) c,
        fun c => caseSeg_post (know5 m) c⟩)⟩)⟩

theorem segs_disjoint : (segs m).Pairwise fun s s' => Disjoint s.T s'.T := by
  unfold segs
  have hT0 := stretch_tickets pre0 (know0 m)
  have hT1 := stretch_tickets pre1 (know2 m)
  have hT2 := stretch_tickets pre2 (know4 m)
  have hc : (caseSeg (know5 m)).T = {2} := rfl
  have h0 : (callSeg 0 (know1 m)).T = {0} := rfl
  have h1 : (callSeg 1 (know3 m)).T = {1} := rfl
  have hp : ∀ l : List (KSeg (F := F)), (∀ s ∈ l, s.T = ∅) → l.Pairwise fun s s' => Disjoint s.T s'.T := fun l hl => List.pairwise_of_forall_mem_list fun a ha b _ => by rw [hl a ha]; exact Finset.disjoint_empty_left _
  have hd : ∀ (l r : List (KSeg (F := F))), (∀ s ∈ l, s.T = ∅) → ∀ a ∈ l, ∀ b ∈ r, Disjoint a.T b.T := fun l r hl a ha b _ => by rw [hl a ha]; exact Finset.disjoint_empty_left _
  have key : ∀ a : Fin 3, ∀ (l r : List (KSeg (F := F))) (x : KSeg (F := F)), (∀ s ∈ l, s.T = ∅) → x.T = {a} → (∀ s ∈ r, a ∉ s.T) →
      (r.Pairwise fun s s' => Disjoint s.T s'.T) → (l ++ x :: r).Pairwise fun s s' => Disjoint s.T s'.T := by
    intro a l r x hl hx hr hpr
    refine List.pairwise_append.mpr ⟨hp l hl, List.pairwise_cons.mpr ⟨fun s hs => ?_, hpr⟩, hd l _ hl⟩
    rw [hx]; exact Finset.disjoint_singleton_left.mpr (hr s hs)
  refine key 0 _ _ _ hT0 h0 ?_ (key 1 _ _ _ hT1 h1 ?_ (key 2 _ _ _ hT2 hc (fun s hs => nomatch hs) List.Pairwise.nil))
  · intro s hs
    rcases List.mem_append.mp hs with hs | hs
    · rw [hT1 s hs]; exact Finset.notMem_empty _
    rcases List.mem_cons.mp hs with rfl | hs
    · rw [h1]; decide
    rcases List.mem_append.mp hs with hs | hs
    · rw [hT2 s hs]; exact Finset.notMem_empty _
    obtain rfl := List.mem_singleton.mp hs
    rw [hc]; decide
  · intro s hs
    rcases List.mem_append.mp hs with hs | hs
    · rw [hT2 s hs]; exact Finset.notMem_empty _
    obtain rfl := List.mem_singleton.mp hs
    rw [hc]; decide

theorem lift_call (p : Fin 3) : HostLoop.liftProg (L := 0) (Prog.lift (.customCall (Pipeline.entry p) ()) : Prog (TpuEff nD τ sig (Elt F) (Pipeline.Sig Λ₀ (Fin 3) fun p => (pcfgs (F := F) p).Adm) .tc) PUnit)
    = Prog.lift (.customCall (HostLoop.inner (Pipeline.entry p)) ()) := rfl

/-- The program, over the calls' labels, is the run of the segments. -/
theorem main_run (c : Dev nD) : HostLoop.liftProg (L := 0) (main (F := F) c) = CSeg.runL (segs m) := by
  rw [main_chain, HostLoop.liftProg_chain]
  unfold CSeg.runL
  refine congrArg Pipeline.chain ?_
  iterate 15 refine congrArg₂ List.cons (by first | exact HostLoop.liftProg_seq _ | exact lift_call _) ?_
  refine congrArg (fun x => [x]) ?_
  rw [HostLoop.liftProg_bind]
  refine congrArg₂ (fun (a : HProg F (BitVec 32)) (b : BitVec 32 → HProg F PUnit) => Prog.bind a b) rfl (funext fun x => ?_)
  rw [HostLoop.liftProg_case]
  refine congrArg (HostLoop.case 2 x) (funext fun i => ?_)
  fin_cases i <;> chain_rfl

theorem hinj : Function.Injective (Pipeline.cellOf (nD := nD) (τ := τ) (pin (pcfgs (F := F)) adm)) := cellOf_inj
theorem sems_scoped : ∀ sm : SemLoc sig, sm.isScoped .tc = true := by decide

/-- The launch element. -/
abbrev u₀ : UU := (fun _ => initOf (Pipeline.cells (pin (pcfgs (F := F)) adm) (hinj (F := F))) (Pipeline.launchToks (pin (pcfgs (F := F)) adm) (hinj (F := F))), 1)

set_option backward.isDefEq.respectTransparency.types false in
/-- From any memory the program ends, and the final memory is known as `know6` says, every counter zero. -/
theorem run_main (g : Dev nD → PrngReg) : θ_run defs (onTc (τ := τ) (main (F := F))) ⟨m, fun _ => 0, g⟩
    (fun r => (∀ c : Dev nD, ∃ V, know6 m c V ∧ ∀ b ∈ ucRefs τ sig, r.2.mem (c, b) = V b) ∧ r.2.sem = fun _ => 0) := by
  refine HostLoop.θ_run_of_lift (loops (F := F)) (defs (F := F)) (main (F := F)) ⟨m, fun _ => 0, g⟩ _ ?_
  refine Pipeline.θ_run_regions_loop_kit_sems (pcfgs (F := F)) adm hinj defs₀ 𝒱₀ lvlSet lvlOf loops (tk (F := F)) m g _ (segs m)
    (fun c Q => by rw [main_run m c]) (segs_disjoint m) (O₀ := 0) (hL := fun _ _ => rfl) (G := fun _ => BI.emp) (u₀ := u₀ (F := F)) (hu₀ := ?_)
    (T₀ := St (know0 m)) (Tₙ := fun c => iprop(∃ V, held (c.tc : Thread nD τ) (ucRefs τ sig) V ∗ ⌜know6 m c V⌝)) (hch := ?_) (hinit := ?_)
    (QY := fun c s => ∃ V, know6 m c V ∧ ∀ b ∈ ucRefs τ sig, s.mem (c, b) = V b) (hfin := ?_)
    (hQ := fun _ h hz => ⟨h, funext fun g => hz g (.inr (sems_scoped g.2))⟩)
  · iintro Hu
    ihave H := (ownU_pair _ _) $$ Hu
    icases H with ⟨H, -⟩
    imodintro
    isplitl
    · iapply (own_iprod (B := Counters) _); iexact H
    · rw [bigSep_emp_const]; iempintro
  · refine chains_end ?_ (segs_chain m)
    intro c
    iintro ⟨%V, Hh, %hV, HO⟩
    isplitl [Hh]
    · iexists V
      isplitl [Hh]; · iexact Hh
      ipureintro; exact hV
    iexact HO
  · refine Pipeline.initEach lvlSet lvlOf fun c => ?_
    rw [show unscopedBufs c (fun b => m ((c.tc : Thread nD τ).loc b)) = held (c.tc : Thread nD τ) (ucRefs τ sig) (fun b => m (c, b))
        from Pipeline.unscopedBufs_held (Ix := Unit) (Name := ℕ) (U := UU) (Lvl := ℕ) c (fun b => m (c, b))]
    iintro ⟨⟨Hh, -, HO, -, -, -⟩, -⟩
    imodintro
    iexists _
    isplitl [Hh]; · iexact Hh
    isplitr; · ipureintro; exact rfl
    iexists ∅; iexact HO
  · intro c s'
    iintro ⟨⟨%V, Hh, %hV⟩, HSI⟩
    unfold StableHlo.held
    ihave Hr := (pointsTo_read_all (ucRefs τ sig) (fun b => ((c.tc : Thread nD τ).1, b)) V s') $$ [Hh HSI]
    · isplitl [Hh] <;> iassumption
    icases Hr with ⟨%hb, HSI⟩
    imodintro
    isplitr
    · ipureintro; exact ⟨V, hV, hb⟩
    iexact HSI

end Cert.KProof
end
-- ==== Proof.Frame.lean ====
/- The program's arguments end as they began: no stretch, call or arm writes them. -/
module

public import proofs.«01_k».proof.Proof.Run

@[expose] public section

noncomputable section

namespace Cert.KProof

open Cert.KernelIdeal Cert.KernelIdeal.Gen

open Idealize.ShloMosaic
open Idealize.ShloMosaic.TcCoe
open Idealize.SL Idealize.SL.Sem
open Idealize.ShloMosaic.StableHlo (after)
open Idealize.ShloMosaic.Pipeline (arrRef ucRefs pin)

variable {F : FTy → Type} [FloatOps F]

/-- The operations of stretches in order. -/
abbrev allOps (l : List (Stretch F)) : List (HloOp τ sig (Elt F)) := l.flatMap Stretch.ops

/-- Running one list of operations after another is running their concatenation. -/
theorem fold_append : ∀ (l₁ l₂ : List (HloOp τ sig (Elt F))) (V : Valuation τ sig (Elt F)), after (l₁ ++ l₂) V = after l₂ (after l₁ V)
  | [], _, _ => rfl
  | _ :: l₁, l₂, V => fold_append l₁ l₂ _

/-- After stretches the buffers are the fold of their operations. -/
theorem afterAll_out {c : Dev nD} {V' : Valuation τ sig (Elt F)} : ∀ (l : List (Stretch F)) (I : Know (F := F)), afterAll l I c V' → ∃ V, I c V ∧ V' = after (allOps l) V
  | [], _, h => ⟨V', h, rfl⟩
  | x :: l, I, h => by
    obtain ⟨V, ⟨V₀, h0, rfl⟩, rfl⟩ := afterAll_out l _ h
    exact ⟨V₀, h0, (fold_append x.ops (allOps l) V₀).symm⟩

/-- What the stretches write, in order. -/
abbrev W0 : List (Ref sig .tc) :=
  [main_call0_v0, main_call0_cst, main_call0_v1, main_call0_v2, main_v0, main_cst, main_v1, main_v2, main_v3, main_v4, main_v5,
   main_call1_v0, main_call1_cst, main_call1_v1, main_call1_v2, main_v6, main_cst_0, main_v7, main_v8, main_v9, main_v10, main_v11, main_v12]
abbrev W1 : List (Ref sig .tc) :=
  [main_c, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v14,
   main_c_1, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v15,
   main_c_2, main_v16, main_v17, main_v18, main_v19, main_v20, main_c_3, main_v21, main_v22, main_v23, main_v24, main_v25, main_c_4, main_v26, main_v27, main_v28,
   main_call4_v0, main_v29, main_call5_v0, main_call5_cst, main_call5_v1, main_call5_v2, main_v30, main_cst_5, main_v31, main_v32, main_v33, main_v34, main_v35, main_v36]
abbrev W2 : List (Ref sig .tc) := [main_c_6, main_v38, main_c_7, main_v39, main_c_8, main_v40, main_c_9, main_v41, main_v42]
abbrev Wkeep : List (Ref sig .tc) := [main_case0b0_v45, main_case0b0_v46, main_v44_0, main_v44_1]
abbrev Wfull : List (Ref sig .tc) := [main_case0b1_v46, main_case0b1_v47, main_v44_0, main_v44_1]

theorem pre0_off (V : Valuation τ sig (Elt F)) (r : Ref sig .tc) (hr : r ∉ W0) : after (allOps pre0) V (Proc.devRef .tc r) = V (Proc.devRef .tc r) :=
  StableHlo.after_of_writes_sub _ V (StableHlo.forall_writes_sub_of_map rfl) hr
theorem pre1_off (V : Valuation τ sig (Elt F)) (r : Ref sig .tc) (hr : r ∉ W1) : after (allOps pre1) V (Proc.devRef .tc r) = V (Proc.devRef .tc r) :=
  StableHlo.after_of_writes_sub _ V (StableHlo.forall_writes_sub_of_map rfl) hr
theorem pre2_off (V : Valuation τ sig (Elt F)) (r : Ref sig .tc) (hr : r ∉ W2) : after (allOps pre2) V (Proc.devRef .tc r) = V (Proc.devRef .tc r) :=
  StableHlo.after_of_writes_sub _ V (StableHlo.forall_writes_sub_of_map rfl) hr
theorem read_off (V : Valuation τ sig (Elt F)) (r : Ref sig .tc) (hr : r ∉ [main_v43]) : after [rdOp] V (Proc.devRef .tc r) = V (Proc.devRef .tc r) :=
  StableHlo.after_of_writes_sub _ V (StableHlo.forall_writes_sub_of_map rfl) hr
theorem keep_off (V : Valuation τ sig (Elt F)) (r : Ref sig .tc) (hr : r ∉ Wkeep) : after keepOps V (Proc.devRef .tc r) = V (Proc.devRef .tc r) :=
  StableHlo.after_of_writes_sub _ V (StableHlo.forall_writes_sub_of_map rfl) hr
theorem full_off (V : Valuation τ sig (Elt F)) (r : Ref sig .tc) (hr : r ∉ Wfull) : after fullOps V (Proc.devRef .tc r) = V (Proc.devRef .tc r) :=
  StableHlo.after_of_writes_sub _ V (StableHlo.forall_writes_sub_of_map rfl) hr

/-- A buffer that no item writes. -/
structure Untouched (r : Ref sig .tc) : Prop where
  s0 : r ∉ W0
  s1 : r ∉ W1
  s2 : r ∉ W2
  rd : r ∉ [main_v43]
  keep : r ∉ Wkeep
  full : r ∉ Wfull
  call : ∀ p w, arrRef (pcfgs (F := F) p).spec w ≠ r

variable (m : (ℓ : Loc nD τ sig) → Buf (Elt F) ℓ)

theorem know6_off (r : Ref sig .tc) (h : Untouched (F := F) r) (c : Dev nD) (V : Valuation τ sig (Elt F)) (hV : know6 m c V) :
    V (Proc.devRef .tc r) = m (c, Proc.devRef .tc r) := by
  have h1 : ∀ V, know1 m c V → V (Proc.devRef .tc r) = m (c, Proc.devRef .tc r) := fun V hV => by
    obtain ⟨V0, rfl, rfl⟩ := afterAll_out _ _ hV
    exact pre0_off _ r h.s0
  have h2 : ∀ V, know2 m c V → V (Proc.devRef .tc r) = m (c, Proc.devRef .tc r) := fun V hV => by
    obtain ⟨V0, h0, hA⟩ := hV
    exact (hA.2 r (h.call 0)).trans (h1 V0 h0)
  have h3 : ∀ V, know3 m c V → V (Proc.devRef .tc r) = m (c, Proc.devRef .tc r) := fun V hV => by
    obtain ⟨V0, h0, rfl⟩ := afterAll_out _ _ hV
    exact (pre1_off _ r h.s1).trans (h2 V0 h0)
  have h4 : ∀ V, know4 m c V → V (Proc.devRef .tc r) = m (c, Proc.devRef .tc r) := fun V hV => by
    obtain ⟨V0, h0, hA⟩ := hV
    exact (hA.2 r (h.call 1)).trans (h3 V0 h0)
  have h5 : ∀ V, know5 m c V → V (Proc.devRef .tc r) = m (c, Proc.devRef .tc r) := fun V hV => by
    obtain ⟨V0, h0, rfl⟩ := afterAll_out _ _ hV
    exact (pre2_off _ r h.s2).trans (h4 V0 h0)
  rcases hV with ⟨V1, ⟨⟨V0, h0, rfl⟩, -⟩, rfl⟩ | ⟨V2, ⟨V1, ⟨⟨V0, h0, rfl⟩, -⟩, hA⟩, rfl⟩
  · exact (keep_off _ r h.keep).trans ((read_off _ r h.rd).trans (h5 V0 h0))
  · exact (full_off _ r h.full).trans ((hA.2 r (h.call 2)).trans ((read_off _ r h.rd).trans (h5 V0 h0)))

theorem arg0_off : Untouched (F := F) main_arg0 :=
  ⟨by decide, by decide, by decide, by decide, by decide, by decide, fun p w => by
    match p with
    | ⟨0, _⟩ => exact (show ∀ w, arrRef spec0 w ≠ main_arg0 by decide) w
    | ⟨1, _⟩ => exact (show ∀ w, arrRef spec1 w ≠ main_arg0 by decide) w
    | ⟨2, _⟩ => exact (show ∀ w, arrRef spec2 w ≠ main_arg0 by decide) w⟩
theorem arg1_off : Untouched (F := F) main_arg1 :=
  ⟨by decide, by decide, by decide, by decide, by decide, by decide, fun p w => by
    match p with
    | ⟨0, _⟩ => exact (show ∀ w, arrRef spec0 w ≠ main_arg1 by decide) w
    | ⟨1, _⟩ => exact (show ∀ w, arrRef spec1 w ≠ main_arg1 by decide) w
    | ⟨2, _⟩ => exact (show ∀ w, arrRef spec2 w ≠ main_arg1 by decide) w⟩

/-- A top-level buffer is among the ones the run answers for. -/
theorem top_mem {b : Ref sig .tc} (hb : b.isScoped = false) : (Proc.devRef .tc b : DevRef τ sig) ∈ ucRefs τ sig :=
  Finset.mem_filter.mpr ⟨StableHlo.devRef_mem_tcRefs b, by rw [Proc.isScoped_devRef, hb]; exact Bool.false_ne_true⟩

/-- From any memory the program ends with its arguments as they were and every counter at zero. -/
theorem frame_all (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => by
    obtain ⟨V, hV, hb⟩ := h.1 c
    exact ⟨(hb _ (top_mem (by decide))).trans (know6_off m main_arg0 arg0_off c V hV),
      (hb _ (top_mem (by decide))).trans (know6_off m main_arg1 arg1_off c V hV)⟩, h.2⟩) (run_main m g)

end Cert.KProof
end
-- ==== Proof.Twin.BodyRead.lean ====
/- A store of a whole buffer, read back. -/
module

public import proofs.«01_k».proof.Proof.Twin.BodyLib

@[expose] public section

noncomputable section

namespace Cert.KTwin

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]
variable {U : Type} [URA U]

local notation "𝕄" => MT nD τ sig Unit (Elt F) ℕ U ℕ

/-- A store of a whole buffer is read back. -/
theorem read_write_full {Val : EltTy → Type} {κ : Kind} {sp : Space} {s : Shape} {e : EltTy} (m : Memref sig κ sp s e) {off : Fin s.rank → Nat}
    (inb : ∀ a, off a + s.size a ≤ s.size a) (f : m.view.ty.Contents Val) (w : (Rect.unit off s.size inb).shape.Idx → Val e) :
    m.view.read Val (View.write Val (m.access (Rect.unit off s.size inb)) f w Finset.univ) = w :=
  View.read_writes_full (Val := Val) m.view f inb w []

end Cert.KTwin

end
-- ==== Proof.Ref.lean ====
/- The reference's run: a straight line of host operations, and what its two results hold. -/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.KRef

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ binary main_arg0 main_arg0 main_call0_v0 mulf,
    nullary main_call0_cst (constant S_ .f32 0x00000000#32),
    binary main_call0_v0 main_call0_cst main_call0_v1 (fun x v => Host.reduceAdd x v reducesTo_S1024x16_S1024_d1 h_S_),
    unary main_call0_v1 main_call0_v2 (broadcastInDim S1024x1 ![0] bcast_S1024_S1024x1_0),
    unary main_call0_v2 main_v0 Host.sqrt,
    nullary main_cst (constant S_ .f32 0x2B8CBCCC#32),
    unary main_cst main_v1 (broadcastInDim S1024x1 ![] bcast_S_S1024x1),
    binary main_v0 main_v1 main_v2 maximumf,
    unary main_v2 main_v3 (broadcastInDim S1024x16 ![0, 1] bcast_S1024x1_S1024x16_0_1),
    binary main_arg0 main_v3 main_v4 Host.divf,
    binary main_arg1 main_arg1 main_call1_v0 mulf,
    nullary main_call1_cst (constant S_ .f32 0x00000000#32),
    binary main_call1_v0 main_call1_cst main_call1_v1 (fun x v => Host.reduceAdd x v reducesTo_S1000000x16_S1000000_d1 h_S_),
    unary main_call1_v1 main_call1_v2 (broadcastInDim S1000000x1 ![0] bcast_S1000000_S1000000x1_0),
    unary main_call1_v2 main_v5 Host.sqrt,
    nullary main_cst_0 (constant S_ .f32 0x2B8CBCCC#32),
    unary main_cst_0 main_v6 (broadcastInDim S1000000x1 ![] bcast_S_S1000000x1),
    binary main_v5 main_v6 main_v7 maximumf,
    unary main_v7 main_v8 (broadcastInDim S1000000x16 ![0, 1] bcast_S1000000x1_S1000000x16_0_1),
    binary main_arg1 main_v8 main_v9 Host.divf,
    unary main_v9 main_v10 (transpose S16x1000000 [1, 0] · transposes_S1000000x16_S16x1000000_1_0),
    binary main_v4 main_v10 main_v11 (fun l r => Host.dotGeneral dot_S1024x16_S16x1000000_S1024x1000000_1_0_0_1_n_n none l r),
    nullary main_cst_1 (constant S_ .f32 0xFF800000#32),
    binary main_v11 main_cst_1 main_v12 (fun x v => Host.reduce FloatOps.maximumf x v reducesTo_S1024x1000000_S1024_d1 h_S_),
    nullary main_call2_v0 (iotaInDim S1024x1000000 32 1),
    nullary main_call2_cst (constant S_ .f32 0xFF800000#32),
    nullary main_call2_c (constantI S_ 32 0#32),
    quaternary main_v11 main_call2_v0 main_call2_cst main_call2_c main_call2_v1_0 (fun x y u v j => (Host.argReduce reducer_argmax_f32_i32 x y u v reducesTo_S1024x1000000_S1024_d1 h_S_ j).1),
    quaternary main_v11 main_call2_v0 main_call2_cst main_call2_c main_v13 (fun x y u v j => (Host.argReduce reducer_argmax_f32_i32 x y u v reducesTo_S1024x1000000_S1024_d1 h_S_ j).2) ]

/-- The reference is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..,
    binary_bufs_sub .., nullary_bufs_sub .., binary_bufs_sub .., unary_bufs_sub .., unary_bufs_sub .., nullary_bufs_sub .., unary_bufs_sub .., binary_bufs_sub .., unary_bufs_sub .., binary_bufs_sub ..,
    unary_bufs_sub .., binary_bufs_sub .., nullary_bufs_sub .., binary_bufs_sub .., nullary_bufs_sub .., nullary_bufs_sub .., nullary_bufs_sub .., quaternary_bufs_sub .., quaternary_bufs_sub ..⟩

/-- The rows of the first argument scaled to unit length. -/
def docN (A : FVec F S1024x16 .f32) : FVec F S1024x16 .f32 :=
  Host.divf A (broadcastInDim S1024x16 ![0, 1] bcast_S1024x1_S1024x16_0_1 (maximumf (Host.sqrt (broadcastInDim S1024x1 ![0] bcast_S1024_S1024x1_0 (Host.reduceAdd (mulf A A) (constant S_ .f32 0x00000000#32) reducesTo_S1024x16_S1024_d1 h_S_)))
    (broadcastInDim S1024x1 ![] bcast_S_S1024x1 (constant S_ .f32 0x2B8CBCCC#32))))
/-- The rows of the second. -/
def clsN (B : FVec F S1000000x16 .f32) : FVec F S1000000x16 .f32 :=
  Host.divf B (broadcastInDim S1000000x16 ![0, 1] bcast_S1000000x1_S1000000x16_0_1 (maximumf (Host.sqrt (broadcastInDim S1000000x1 ![0] bcast_S1000000_S1000000x1_0 (Host.reduceAdd (mulf B B) (constant S_ .f32 0x00000000#32) reducesTo_S1000000x16_S1000000_d1 h_S_)))
    (broadcastInDim S1000000x1 ![] bcast_S_S1000000x1 (constant S_ .f32 0x2B8CBCCC#32))))
/-- The similarities. -/
def simsR (A : FVec F S1024x16 .f32) (B : FVec F S1000000x16 .f32) : FVec F S1024x1000000 .f32 :=
  Host.dotGeneral dot_S1024x16_S16x1000000_S1024x1000000_1_0_0_1_n_n none (docN A) (transpose S16x1000000 [1, 0] (clsN B) transposes_S1000000x16_S16x1000000_1_0)
/-- The largest similarity of each row. -/
def valR (A : FVec F S1024x16 .f32) (B : FVec F S1000000x16 .f32) : FVec F S1024 .f32 :=
  Host.reduce FloatOps.maximumf (simsR A B) (constant S_ .f32 0xFF800000#32) reducesTo_S1024x1000000_S1024_d1 h_S_
/-- Its column. -/
def idxR (A : FVec F S1024x16 .f32) (B : FVec F S1000000x16 .f32) : IVec S1024 32 :=
  fun j => (Host.argReduce reducer_argmax_f32_i32 (simsR A B) (iotaInDim S1024x1000000 32 1) (constant S_ .f32 0xFF800000#32) (constantI S_ 32 0#32) reducesTo_S1024x1000000_S1024_d1 h_S_ j).2

theorem val_eq (V : Valuation τ sig (Elt F)) : after ops V (main_v12 : DevRef τ sig) = valR (V (main_arg0 : DevRef τ sig)) (V (main_arg1 : DevRef τ sig)) := by
  after_results
  rfl
theorem idx_eq (V : Valuation τ sig (Elt F)) : after ops V (main_v13 : DevRef τ sig) = idxR (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

/-- From any memory the reference ends with its two results, its arguments as they were. -/
theorem run_main (m : (ℓ : Loc nD τ sig) → Buf (Elt F) ℓ) (g : Dev nD → PrngReg) :
    θ_run defs (onTc (τ := τ) (main (F := F))) ⟨m, fun _ => 0, g⟩ fun r =>
      ∀ c : Dev nD, r.2.mem ((c.tc : Thread nD τ).loc main_v12) = valR (m ((c.tc : Thread nD τ).loc main_arg0)) (m ((c.tc : Thread nD τ).loc main_arg1))
        ∧ r.2.mem ((c.tc : Thread nD τ).loc main_v13) = idxR (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v12).trans (val_eq _), (h c main_v13).trans (idx_eq _), (h c main_arg0).trans (arg0_eq _), (h c main_arg1).trans (arg1_eq _)⟩)
    (run_seq scopedRefs_eq scopedSems_eq defs main (fun _ => ops) main_eq (fun _ => ops_sub) m g)

theorem frame_all : Cert.quiescent_ReferenceIdeal := fun m g _ =>
  (θ_run defs _ _).mono (fun r h => ⟨fun c => ⟨(h c).2.2.1, (h c).2.2.2⟩, Idealize.ShloMosaic.sem_eq_zero_of_no_sems (by decide) r.2⟩) (run_main (F := Ideal) m g)

end Cert.KRef
end
-- ==== Proof.Exit.lean ====
/- What a call leaves: the row maxima of a pass over the keys in the pass's first result; the arrays it only reads as they were. -/
module

public import proofs.«01_k».proof.Proof.Frame
public import Idealize.ShloMosaic.Lib.Pipeline.ArrRel
public import Idealize.ShloMosaic.PureOps.Ideal

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.Sem
open Idealize.ShloMosaic.StableHlo (after)
open Idealize.ShloMosaic.Pipeline (Dat RDat Cfg Window arrRef ucRefs pin)

theorem whole0_2 : (cfg0.win (2 : Fin 5)).WholeAt (pt0 122) := by decide +kernel
theorem whole2_2 : (cfg2.win (2 : Fin 4)).WholeAt (pt2 488) := by decide +kernel

/-- The first call's row maxima: its last point's, for some overhanging part. -/
theorem exit0 (V V' : Valuation τ sig (Elt Ideal)) (c : Dev nD) (h : After 0 (rdV (U := UU) V) c V V') :
    ∃ d, V' main_v13_0 = val0 (F := Ideal) (V main_v5) (V main_v12) d := by
  have hA : ((dat0 (F := Ideal) (U := UU) V c).toRRel fgt0 (rel0 V)).ArrAt (2 : Fin 5) cfg0.N (V' main_v13_0) := h.1 (2 : Fin 5)
  obtain ⟨X, hX, hG⟩ := hA.emb_eq_of_wholeAt whole0_2
  obtain ⟨d, hd⟩ := Dat.toRRel_leaves (dat0 (F := Ideal) (U := UU) V c) (fgt := fgt0) (Rl := rel0 V) (w := (2 : Fin 5)) rfl hX rfl
  refine ⟨d, ?_⟩
  rw [← hd]
  funext j
  exact hG j

/-- The third call's, likewise. -/
theorem exit2 (V V' : Valuation τ sig (Elt Ideal)) (c : Dev nD) (h : After 2 (rdV (U := UU) V) c V V') :
    ∃ d, V' main_case0b1_v45_0 = val2 (F := Ideal) (V main_v5) (V main_v12) d := by
  have hA : ((dat2 (F := Ideal) (U := UU) V c).toRRel fgt2 (rel2 V)).ArrAt (2 : Fin 4) cfg2.N (V' main_case0b1_v45_0) := h.1 (2 : Fin 4)
  obtain ⟨X, hX, hG⟩ := hA.emb_eq_of_wholeAt whole2_2
  obtain ⟨d, hd⟩ := Dat.toRRel_leaves (dat2 (F := Ideal) (U := UU) V c) (fgt := fgt2) (Rl := rel2 V) (w := (2 : Fin 4)) rfl hX rfl
  refine ⟨d, ?_⟩
  rw [← hd]
  funext j
  exact hG j

/-- An array that is only read ends as it began. -/
theorem in_kept {cfg : Cfg sig Λ₀} {c : Dev nD} (rd : RDat τ (Elt Ideal) Unit ℕ UU ℕ cfg c) (w : Fin cfg.W) (hin : (cfg.win w).isOut = false) {n : ℕ}
    {G : Buf (Elt Ideal) ((cfg.win w).arr.view.loc (c.tc : Thread nD τ))} (h : rd.ArrAt w n G) : G = rd.A w := by
  rw [rd.ArrAt_in w hin] at h
  exact h

/-- The normalised queries pass the first call unchanged. -/
theorem kept0_q (V V' : Valuation τ sig (Elt Ideal)) (c : Dev nD) (h : After 0 (rdV (U := UU) V) c V V') : V' main_v5 = V main_v5 := by
  have hA : ((dat0 (F := Ideal) (U := UU) V c).toRRel fgt0 (rel0 V)).ArrAt (0 : Fin 5) cfg0.N (V' main_v5) := h.1 (0 : Fin 5)
  have e := in_kept ((dat0 (F := Ideal) (U := UU) V c).toRRel fgt0 (rel0 V)) (0 : Fin 5) rfl hA
  exact e
/-- So do the keys. -/
theorem kept0_x (V V' : Valuation τ sig (Elt Ideal)) (c : Dev nD) (h : After 0 (rdV (U := UU) V) c V V') : V' main_v12 = V main_v12 := by
  have hA : ((dat0 (F := Ideal) (U := UU) V c).toRRel fgt0 (rel0 V)).ArrAt (1 : Fin 5) cfg0.N (V' main_v12) := h.1 (1 : Fin 5)
  have e := in_kept ((dat0 (F := Ideal) (U := UU) V c).toRRel fgt0 (rel0 V)) (1 : Fin 5) rfl hA
  exact e
/-- The queries pass the second call. -/
theorem kept1_q (V V' : Valuation τ sig (Elt Ideal)) (c : Dev nD) (h : After 1 (rdV (U := UU) V) c V V') : V' main_v5 = V main_v5 := by
  have hA : ((dat1 (F := Ideal) (U := UU) V c).toRRel fgt1 rel1).ArrAt (0 : Fin 6) cfg1.N (V' main_v5) := h.1 (0 : Fin 6)
  have e := in_kept ((dat1 (F := Ideal) (U := UU) V c).toRRel fgt1 rel1) (0 : Fin 6) rfl hA
  exact e
/-- The first call's maxima pass the second. -/
theorem kept1_v (V V' : Valuation τ sig (Elt Ideal)) (c : Dev nD) (h : After 1 (rdV (U := UU) V) c V V') : V' main_v13_0 = V main_v13_0 := by
  have hA : ((dat1 (F := Ideal) (U := UU) V c).toRRel fgt1 rel1).ArrAt (2 : Fin 6) cfg1.N (V' main_v13_0) := h.1 (2 : Fin 6)
  have e := in_kept ((dat1 (F := Ideal) (U := UU) V c).toRRel fgt1 rel1) (2 : Fin 6) rfl hA
  exact e
/-- The second call does not touch the keys. -/
theorem kept1_x (V V' : Valuation τ sig (Elt Ideal)) (c : Dev nD) (h : After 1 (rdV (U := UU) V) c V V') : V' main_v12 = V main_v12 :=
  h.2 main_v12 (show ∀ w, arrRef spec1 w ≠ main_v12 by decide)

end Cert.KProof
end
-- ==== Proof.Value.lean ====
/- What the calls compute, over the extended reals: bounds for the running maxima, by the scores they have seen. -/
module

public import proofs.«01_k».proof.Proof.Region0
public import proofs.«01_k».proof.Proof.Region2
public import Idealize.ShloMosaic.PureOps.Ideal
public import Idealize.ShloMosaic.PureOps.Ideal.Laws

@[expose] public section

set_option maxRecDepth 16384

noncomputable section

namespace Cert.KProof

open Cert.KernelIdeal Cert.KernelIdeal.Gen
open Idealize.ShloMosaic
open Idealize.ShloMosaic.TcCoe

/-- The index of row `r`, column `k`. -/
def at2 {m n : ℕ} (r : Fin m) (k : Fin n) : (⟨2, ![m, n]⟩ : Shape).Idx
  | ⟨0, _⟩ => r
  | ⟨1, _⟩ => k

theorem at2_ext {m n : ℕ} {i j : (⟨2, ![m, n]⟩ : Shape).Idx} (h0 : (i 0).val = (j 0).val) (h1 : (i 1).val = (j 1).val) : i = j := by
  funext a
  match a with
  | ⟨0, _⟩ => exact Fin.ext h0
  | ⟨1, _⟩ => exact Fin.ext h1

/-- The score of query `r` and key `k`. -/
def score (q : FVec Ideal S1024x16 .bf16) (x : FVec Ideal S16x1000000 .bf16) (r : Fin 1024) (k : Fin 1000000) : EReal :=
  ∑ i : (DotDims.plain 1024 16 1000000).contr.Idx, q ((DotDims.plain 1024 16 1000000).lhsIdx (at2 r k) i) * x ((DotDims.plain 1024 16 1000000).rhsIdx (at2 r k) i)

/-- `c` bounds the score of key `k`, if there is such a key. -/
def Below (q : FVec Ideal S1024x16 .bf16) (x : FVec Ideal S16x1000000 .bf16) (r : Fin 1024) (c : EReal) (k : ℕ) : Prop :=
  ∀ h : k < 1000000, score q x r ⟨k, h⟩ ≤ c

theorem Below.congr_key {q : FVec Ideal S1024x16 .bf16} {x : FVec Ideal S16x1000000 .bf16} {r : Fin 1024} {c : EReal} {n : ℕ} (h : Below q x r c n) (k : Fin 1000000) (e : n = k.val) :
    score q x r k ≤ c := by
  subst e
  exact h k.isLt

theorem bot_f32 : (Scalar.ofBits (F := Ideal) .f32 0xFF800000#32 : EReal) = ⊥ := by
  show Ideal.ofBits .f32 0xFF800000#32 = ⊥
  simp [Ideal.ofBits, Ideal.ieee]

/-- A running maximum, replaced where the new value is greater. -/
theorem acc_le {S : Shape} (M A : FVec Ideal S .f32) (j : S.Idx) (c : EReal) :
    (select (cmpf .ogt M A) M A j : EReal) ≤ c ↔ (A j : EReal) ≤ c ∧ (M j : EReal) ≤ c := by
  show (if Ideal.cmp .ogt (M j) (A j) = 1 then (M j : EReal) else A j) ≤ c ↔ _
  by_cases h : (A j : EReal) < M j
  · have e : Ideal.cmp .ogt (M j) (A j) = 1 := by simp [Ideal.cmp, h]
    rw [if_pos e]
    exact ⟨fun h' => ⟨h.le.trans h', h'⟩, fun h' => h'.2⟩
  · have e : ¬Ideal.cmp .ogt (M j) (A j) = 1 := by simp [Ideal.cmp, h]
    rw [if_neg e]
    exact ⟨fun h' => ⟨h', (not_lt.1 h).trans h'⟩, fun h' => h'.1⟩

/-- A chain of maxima. -/
theorem fold_le {S : Shape} {ι : Type} (f : ι → FVec Ideal S .f32) (j : S.Idx) (c : EReal) (l : List ι) (a : FVec Ideal S .f32) :
    (l.foldl (fun a n => maximumf a (f n)) a j : EReal) ≤ c ↔ (a j : EReal) ≤ c ∧ ∀ n ∈ l, (f n j : EReal) ≤ c := by
  induction l generalizing a with
  | nil => simp
  | cons n l ih =>
    rw [List.foldl_cons, ih]
    show (max (a j : EReal) (f n j) ≤ c ∧ _) ↔ _
    rw [max_le_iff, List.forall_mem_cons, and_assoc]

/-- The maximum along the last axis. -/
theorem row_le {m n : ℕ} (v : FVec Ideal ⟨2, ![m, n]⟩ .f32) (h : (⟨2, ![m, n]⟩ : Shape).Reduces [1] ⟨1, ![m]⟩) (hφ : FKind.Formats .f32)
    (hacc : (0xFF800000#32 : BitVec 32) = FKind.maximumf.neutral .f32 hφ) (j : (⟨1, ![m]⟩ : Shape).Idx) (c : EReal) :
    (multiReduction .maximumf [1] ⟨1, ![m]⟩ v 0xFF800000#32 h hφ hacc j : EReal) ≤ c ↔ ∀ l : Fin n, (v (at2 (j 0) l) : EReal) ≤ c := by
  rw [Ideal.multiReduction_maximumf_single, Finset.fold_max_le]
  have e : ∀ l : Fin n, h.lift j l = at2 (j 0) l := fun l => at2_ext rfl rfl
  constructor
  · intro h' l
    exact (congrArg (fun i => (v i : EReal)) (e l)).symm.trans_le (h'.2 l (Finset.mem_univ _))
  · intro h'
    refine ⟨?_, fun l _ => (congrArg (fun i => (v i : EReal)) (e l)).trans_le (h' l)⟩
    exact (show _ = (⊥ : EReal) from bot_f32).trans_le bot_le

/-- The columns of a block that a transfer fills. -/
theorem inside {B n l : ℕ} (hB : 0 < B) (hn : n < 2 ^ 32) (hl : l < B) (h : n * B + l < 1000000) :
    l < (Pipeline.Clip.of (BitVec.ofNat 32 n).toNat B 1000000).extent B := by
  rw [BitVec.toNat_ofNat, Nat.mod_eq_of_lt hn]
  unfold Pipeline.Clip.of
  split
  · exact hl
  · show l < 1000000 - n * B
    omega

/-- A key inside the array is in its block, whatever lies beyond the array. -/
theorem kblk0_apply (x : FVec Ideal S16x1000000 .bf16) (d : FVec Ideal S16x8192 .bf16) (t : Fin cfg0.N) (i : Fin 16) (l : Fin 8192)
    (h : t.val * 8192 + l.val < 1000000) : kblk0 (F := Ideal) x d t (at2 i l) = x (at2 i ⟨t.val * 8192 + l.val, h⟩) := by
  have ht : (grid0.coords t 0).val = t.val := coords0 t
  have hm : ∀ a, ((at2 i l : S16x8192.Idx) a).val < win0_1.xsize (grid0.coords t) a := by
    intro a
    match a with
    | ⟨0, _⟩ => exact i.isLt
    | ⟨1, _⟩ => exact inside (B := 8192) (by decide) (by have := (grid0.coords t 0).isLt; omega) l.isLt (by rw [ht]; exact h)
  refine (win0_1.fill_xinj (grid0.coords t) d ((win0_1.blk t).view.read (Elt Ideal) x) (fun a => ⟨((at2 i l : S16x8192.Idx) a).val, hm a⟩)).trans ?_
  show x _ = x _
  congr 1
  refine at2_ext ?_ ?_
  · exact (Pipeline.Window.rect_emb_val win0_1 t _ 0).trans (by show 0 * 16 + i.val = i.val; omega)
  · refine (Pipeline.Window.rect_emb_val win0_1 t _ 1).trans ?_
    show (BitVec.ofNat 32 (grid0.coords t 0).val).toNat * 8192 + l.val = t.val * 8192 + l.val
    rw [ht, BitVec.toNat_ofNat, Nat.mod_eq_of_lt (by have := (grid0.coords t 0).isLt; omega)]

@[inherit_doc kblk0_apply]
theorem kblk2_apply (x : FVec Ideal S16x1000000 .bf16) (d : FVec Ideal S16x2048 .bf16) (t : Fin cfg2.N) (i : Fin 16) (l : Fin 2048)
    (h : t.val * 2048 + l.val < 1000000) : kblk2 (F := Ideal) x d t (at2 i l) = x (at2 i ⟨t.val * 2048 + l.val, h⟩) := by
  have ht : (grid2.coords t 0).val = t.val := coords2 t
  have hm : ∀ a, ((at2 i l : S16x2048.Idx) a).val < win2_1.xsize (grid2.coords t) a := by
    intro a
    match a with
    | ⟨0, _⟩ => exact i.isLt
    | ⟨1, _⟩ => exact inside (B := 2048) (by decide) (by have := (grid2.coords t 0).isLt; omega) l.isLt (by rw [ht]; exact h)
  refine (win2_1.fill_xinj (grid2.coords t) d ((win2_1.blk t).view.read (Elt Ideal) x) (fun a => ⟨((at2 i l : S16x2048.Idx) a).val, hm a⟩)).trans ?_
  show x _ = x _
  congr 1
  refine at2_ext ?_ ?_
  · exact (Pipeline.Window.rect_emb_val win2_1 t _ 0).trans (by show 0 * 16 + i.val = i.val; omega)
  · refine (Pipeline.Window.rect_emb_val win2_1 t _ 1).trans ?_
    show (BitVec.ofNat 32 (grid2.coords t 0).val).toNat * 2048 + l.val = t.val * 2048 + l.val
    rw [ht, BitVec.toNat_ofNat, Nat.mod_eq_of_lt (by have := (grid2.coords t 0).isLt; omega)]

/-- A chunk's columns in its block. -/
theorem chunk_apply (X : FVec Ideal S16x8192 .bf16) (n : Fin 64) (i : Fin 16) (l : Fin 128) :
    chunk X n (at2 i l) = X (at2 i ⟨128 * n.val + l.val, by omega⟩) := by
  show X _ = X _
  congr 1
  refine at2_ext ?_ ?_
  · show 0 + 1 * i.val = i.val; omega
  · show 128 * n.val + 1 * l.val = 128 * n.val + l.val; omega

/-- The products of a chunk are scores. -/
theorem dot0_apply (q : FVec Ideal S1024x16 .bf16) (x : FVec Ideal S16x1000000 .bf16) (g : FVec Ideal S16x128 .bf16) (r : Fin 1024) (l : Fin 128) (k : Fin 1000000)
    (h : ∀ i : Fin 16, g (at2 i l) = x (at2 i k)) :
    (matmul dot_S1024x16_S16x128_S1024x128_1_0_0_1_n_n none q g (constant S1024x128 .f32 0x00000000#32) (at2 r l) : EReal) = score q x r k := by
  refine Eq.trans (α := EReal) (Ideal.matmul_constant_zero_apply dot_S1024x16_S16x128_S1024x128_1_0_0_1_n_n none q g (at2 r l)) ?_
  refine Finset.sum_congr rfl fun i _ => ?_
  have e1 : dot_S1024x16_S16x128_S1024x128_1_0_0_1_n_n.lhsIdx (at2 r l) i = (DotDims.plain 1024 16 1000000).lhsIdx (at2 r k) i := at2_ext rfl rfl
  have e2 : dot_S1024x16_S16x128_S1024x128_1_0_0_1_n_n.rhsIdx (at2 r l) i = at2 (i (⟨0, Nat.one_pos⟩ : Fin 1)) l := at2_ext rfl rfl
  have e3 : (DotDims.plain 1024 16 1000000).rhsIdx (at2 r k) i = at2 (i (⟨0, Nat.one_pos⟩ : Fin 1)) k := at2_ext rfl rfl
  rw [e1, e2, e3]
  exact congrArg (fun y : EReal => (q _ : EReal) * y) (h (i (⟨0, Nat.one_pos⟩ : Fin 1)))

@[inherit_doc dot0_apply]
theorem dot2_apply (q : FVec Ideal S1024x16 .bf16) (x : FVec Ideal S16x1000000 .bf16) (g : FVec Ideal S16x2048 .bf16) (r : Fin 1024) (l : Fin 2048) (k : Fin 1000000)
    (h : ∀ i : Fin 16, g (at2 i l) = x (at2 i k)) :
    (matmul dot_S1024x16_S16x2048_S1024x2048_1_0_0_1_n_n none q g (constant S1024x2048 .f32 0x00000000#32) (at2 r l) : EReal) = score q x r k := by
  refine Eq.trans (α := EReal) (Ideal.matmul_constant_zero_apply dot_S1024x16_S16x2048_S1024x2048_1_0_0_1_n_n none q g (at2 r l)) ?_
  refine Finset.sum_congr rfl fun i _ => ?_
  have e1 : dot_S1024x16_S16x2048_S1024x2048_1_0_0_1_n_n.lhsIdx (at2 r l) i = (DotDims.plain 1024 16 1000000).lhsIdx (at2 r k) i := at2_ext rfl rfl
  have e2 : dot_S1024x16_S16x2048_S1024x2048_1_0_0_1_n_n.rhsIdx (at2 r l) i = at2 (i (⟨0, Nat.one_pos⟩ : Fin 1)) l := at2_ext rfl rfl
  have e3 : (DotDims.plain 1024 16 1000000).rhsIdx (at2 r k) i = at2 (i (⟨0, Nat.one_pos⟩ : Fin 1)) k := at2_ext rfl rfl
  rw [e1, e2, e3]
  exact congrArg (fun y : EReal => (q _ : EReal) * y) (h (i (⟨0, Nat.one_pos⟩ : Fin 1)))

end Cert.KProof
end
-- ==== Proof.Value0.lean ====
/- What the first call stores as its row maxima. -/
module

public import proofs.«01_k».proof.Proof.Value

@[expose] public section

set_option maxRecDepth 16384

noncomputable section

namespace Cert.KProof

open Cert.KernelIdeal Cert.KernelIdeal.Gen
open Idealize.ShloMosaic
open Idealize.ShloMosaic.TcCoe

/-- Chunk `n`'s scores. -/
def dots {F : FTy → Type} [FloatOps F] (q : FVec F S1024x16 .bf16) (g : Fin 64 → FVec F S16x128 .bf16) (n : Fin 64) : FVec F S1024x128 .f32 :=
  matmul dot_S1024x16_S16x128_S1024x128_1_0_0_1_n_n none (shapeCast S1024x16 q shapeCasts_S1024x16_S1024x16)
    (shapeCast S16x128 (g n) shapeCasts_S16x128_S16x128) (constant S1024x128 .f32 0x00000000#32)

/-- The even chunks after the first, and the odd ones after the first. -/
abbrev evens : List (Fin 64) := [2, 4, 6, 8, 10, 12, 14, 16, 18, 20, 22, 24, 26, 28, 30, 32, 34, 36, 38, 40, 42, 44, 46, 48, 50, 52, 54, 56, 58, 60, 62]
@[inherit_doc evens]
abbrev odds : List (Fin 64) := [3, 5, 7, 9, 11, 13, 15, 17, 19, 21, 23, 25, 27, 29, 31, 33, 35, 37, 39, 41, 43, 45, 47, 49, 51, 53, 55, 57, 59, 61, 63]
/-- All chunks after the first. -/
abbrev rest : List (Fin 64) := [1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]

theorem blockMax_eq {F : FTy → Type} [FloatOps F] (q : FVec F S1024x16 .bf16) (g : Fin 64 → FVec F S16x128 .bf16) :
    k0_pay4 q (evenMax (k0_pay3 q) g) (oddMax (k0_pay3 q) g) (g 60) (g 61) (g 62) (g 63)
      = maximumf (evens.foldl (fun a n => maximumf a (dots q g n)) (dots q g 0)) (odds.foldl (fun a n => maximumf a (dots q g n)) (dots q g 1)) := rfl

/-- The columns of chunk `n` that lie inside the array, at the last point. -/
def keepCols (n : Fin 64) : IVec S1024x128 1 :=
  cmpi .slt (addi (iota .tc S1024x128 32 [1] iota_S1024x128_d1_w32) (broadcast S1024x128 (BitVec.ofNat 32 (128 * n.val)))) (broadcast S1024x128 576#32)
/-- Those of the first chunk, as the text has them. -/
def keepFirst : IVec S1024x128 1 := cmpi .slt (iota .tc S1024x128 32 [1] iota_S1024x128_d1_w32) (broadcast S1024x128 576#32)

/-- Chunk `n`'s scores at the last point, minus infinity beyond the array. -/
def masked {F : FTy → Type} [FloatOps F] (q : FVec F S1024x16 .bf16) (g : Fin 64 → FVec F S16x128 .bf16) (n : Fin 64) : FVec F S1024x128 .f32 :=
  select (keepCols n) (dots q g n) (broadcast S1024x128 (Scalar.ofBits .f32 0xFF800000#32))

theorem lastBlock_eq {F : FTy → Type} [FloatOps F] (q : FVec F S1024x16 .bf16) (g : Fin 64 → FVec F S16x128 .bf16) :
    k0_pay63 (lastMax (k0_pay3 q) g) (lastChunk (k0_pay3 q) g)
      = rest.foldl (fun a n => maximumf a (masked q g n)) (select keepFirst (dots q g 0) (broadcast S1024x128 (Scalar.ofBits .f32 0xFF800000#32))) := rfl

/-- Which columns are kept. -/
theorem keepCols_apply (n : Fin 64) (r : Fin 1024) (l : Fin 128) : keepCols n (at2 r l) = BitVec.ofBool (decide (128 * n.val + l.val < 576)) := by
  have h : ∀ (n : Fin 64) (l : Fin 128), IntOp.cmpi .slt (IntOp.addi (BitVec.ofNat 32 l.val) (BitVec.ofNat 32 (128 * n.val))) 576#32 = BitVec.ofBool (decide (128 * n.val + l.val < 576)) := by
    decide +kernel
  refine Eq.trans ?_ (h n l)
  show IntOp.cmpi .slt (IntOp.addi (BitVec.ofNat 32 (0 * 128 + l.val)) _) _ = _
  rw [Nat.zero_mul, Nat.zero_add]
  rfl
@[inherit_doc keepCols_apply]
theorem keepFirst_eq : keepFirst = keepCols 0 := by
  funext j
  show IntOp.cmpi .slt (iota .tc S1024x128 32 [1] iota_S1024x128_d1_w32 j) 576#32 = IntOp.cmpi .slt (IntOp.addi (iota .tc S1024x128 32 [1] iota_S1024x128_d1_w32 j) 0#32) 576#32
  show _ = IntOp.cmpi .slt (_ + 0#32) 576#32
  rw [BitVec.add_zero]

/-- A chunk's score, as a score of its key. -/
theorem dots_apply (q : FVec Ideal S1024x16 .bf16) (x : FVec Ideal S16x1000000 .bf16) (d : FVec Ideal S16x8192 .bf16) (t : Fin cfg0.N) (n : Fin 64) (r : Fin 1024) (l : Fin 128)
    (h : t.val * 8192 + (128 * n.val + l.val) < 1000000) :
    (dots q (chunk (kblk0 (F := Ideal) x d t)) n (at2 r l) : EReal) = score q x r ⟨t.val * 8192 + (128 * n.val + l.val), h⟩ := by
  unfold dots
  rw [shapeCast_self, shapeCast_self]
  exact dot0_apply q x _ r l _ fun i => (chunk_apply _ n i l).trans (kblk0_apply x d t i _ h)

/-- A bound of a chunk's score, at a point whose block lies inside the array. -/
theorem dots_le (q : FVec Ideal S1024x16 .bf16) (x : FVec Ideal S16x1000000 .bf16) (d : FVec Ideal S16x8192 .bf16) (t : Fin cfg0.N) (ht : t.val < 122) (n : Fin 64) (r : Fin 1024) (l : Fin 128) (c : EReal) :
    (dots q (chunk (kblk0 (F := Ideal) x d t)) n (at2 r l) : EReal) ≤ c ↔ Below q x r c (t.val * 8192 + (128 * n.val + l.val)) := by
  have h : t.val * 8192 + (128 * n.val + l.val) < 1000000 := by omega
  rw [dots_apply q x d t n r l h]
  exact ⟨fun h' _ => h', fun h' => h' h⟩

/-- A bound of a masked score, at the last point. -/
theorem masked_le (q : FVec Ideal S1024x16 .bf16) (x : FVec Ideal S16x1000000 .bf16) (d : FVec Ideal S16x8192 .bf16) (n : Fin 64) (r : Fin 1024) (l : Fin 128) (c : EReal) :
    (masked q (chunk (kblk0 (F := Ideal) x d (pt0 122))) n (at2 r l) : EReal) ≤ c ↔ Below q x r c (122 * 8192 + (128 * n.val + l.val)) := by
  show (if keepCols n (at2 r l) = 1 then (dots q (chunk (kblk0 (F := Ideal) x d (pt0 122))) n (at2 r l) : EReal) else (Scalar.ofBits (F := Ideal) .f32 0xFF800000#32 : EReal)) ≤ c ↔ _
  rw [keepCols_apply]
  by_cases h : 128 * n.val + l.val < 576
  · rw [if_pos (by simp [h]), dots_apply q x d (pt0 122) n r l (by show 122 * 8192 + _ < _; omega)]
    exact ⟨fun h' _ => h', fun h' => h' (by omega)⟩
  · rw [if_neg (by simp [h]), bot_f32]
    exact ⟨fun _ h' => absurd h' (by omega), fun _ => bot_le⟩

theorem chunks_cover (n : Fin 64) : n = 0 ∨ n ∈ rest := by revert n; decide
theorem chunks_halves (n : Fin 64) : n = 0 ∨ n = 1 ∨ n ∈ evens ∨ n ∈ odds := by revert n; decide

/-- The running maximum after a point whose block lies inside the array. -/
theorem updA_le (q : FVec Ideal S1024x16 .bf16) (x : FVec Ideal S16x1000000 .bf16) (d : FVec Ideal S16x8192 .bf16) (t : Fin cfg0.N) (ht : t.val < 122) (A : FVec Ideal S1024x128 .f32)
    (r : Fin 1024) (l : Fin 128) (c : EReal) :
    (updA q (kblk0 (F := Ideal) x d t) A (at2 r l) : EReal) ≤ c ↔ (A (at2 r l) : EReal) ≤ c ∧ ∀ n : Fin 64, Below q x r c (t.val * 8192 + (128 * n.val + l.val)) := by
  have e : updA q (kblk0 (F := Ideal) x d t) A
      = shapeCast S1024x128 (select (cmpf .ogt (k0_pay4 q (evenMax (k0_pay3 q) (chunk (kblk0 (F := Ideal) x d t))) (oddMax (k0_pay3 q) (chunk (kblk0 (F := Ideal) x d t))) (chunk (kblk0 (F := Ideal) x d t) 60) (chunk (kblk0 (F := Ideal) x d t) 61) (chunk (kblk0 (F := Ideal) x d t) 62) (chunk (kblk0 (F := Ideal) x d t) 63)) A)
          (k0_pay4 q (evenMax (k0_pay3 q) (chunk (kblk0 (F := Ideal) x d t))) (oddMax (k0_pay3 q) (chunk (kblk0 (F := Ideal) x d t))) (chunk (kblk0 (F := Ideal) x d t) 60) (chunk (kblk0 (F := Ideal) x d t) 61) (chunk (kblk0 (F := Ideal) x d t) 62) (chunk (kblk0 (F := Ideal) x d t) 63)) A) shapeCasts_S1024x128_S1024x128 := rfl
  rw [e, shapeCast_self, blockMax_eq, acc_le]
  refine and_congr_right fun _ => ?_
  show max (_ : EReal) _ ≤ c ↔ _
  rw [max_le_iff, fold_le, fold_le]
  constructor
  · rintro ⟨⟨h0, he⟩, h1, ho⟩ n
    refine (dots_le q x d t ht n r l c).1 ?_
    rcases chunks_halves n with rfl | rfl | h | h
    · exact h0
    · exact h1
    · exact he n h
    · exact ho n h
  · intro h
    have h' := fun n => (dots_le q x d t ht n r l c).2 (h n)
    exact ⟨⟨h' 0, fun n _ => h' n⟩, h' 1, fun n _ => h' n⟩

/-- The running maximum after point `n`. -/
def runMax (q : FVec Ideal S1024x16 .bf16) (x : FVec Ideal S16x1000000 .bf16) (n : ℕ) : FVec Ideal S1024x128 .f32 := (scr0 (F := Ideal) q x n).1
/-- The masked maxima of the last block. -/
def lastBlk (q : FVec Ideal S1024x16 .bf16) (x : FVec Ideal S16x1000000 .bf16) (d : FVec Ideal S16x8192 .bf16) : FVec Ideal S1024x128 .f32 :=
  k0_pay63 (F := Ideal) (lastMax (k0_pay3 q) (chunk (kblk0 (F := Ideal) x d (pt0 122)))) (lastChunk (k0_pay3 q) (chunk (kblk0 (F := Ideal) x d (pt0 122))))

/-- The running maximum after point `n` bounds just the scores seen so far. -/
theorem scr0_le (q : FVec Ideal S1024x16 .bf16) (x : FVec Ideal S16x1000000 .bf16) (r : Fin 1024) (l : Fin 128) (c : EReal) (n : ℕ) (hn : n < 122) :
    (runMax q x n (at2 r l) : EReal) ≤ c ↔ ∀ t ≤ n, ∀ m : Fin 64, Below q x r c (t * 8192 + (128 * m.val + l.val)) := by
  induction n with
  | zero =>
    refine (updA_le q x (none0 (F := Ideal)) (pt0 0) (by decide) _ r l c).trans ?_
    have hb : (k0_pay1 (F := Ideal) (at2 r l) : EReal) ≤ c := (show _ = (⊥ : EReal) from bot_f32).trans_le bot_le
    constructor
    · rintro ⟨-, h⟩ t ht m
      obtain rfl : t = 0 := by omega
      exact h m
    · exact fun h => ⟨hb, h 0 le_rfl⟩
  | succ n ih =>
    have hv : (pt0 (n + 1)).val = n + 1 := Nat.mod_eq_of_lt (by omega)
    have e : runMax q x (n + 1) = updA q (kblk0 (F := Ideal) x (none0 (F := Ideal)) (pt0 (n + 1))) (runMax q x n) := by
      unfold runMax
      rw [scr0, if_pos hn]
    rw [e, updA_le q x (none0 (F := Ideal)) (pt0 (n + 1)) (by omega), ih (by omega), hv]
    constructor
    · rintro ⟨h, h'⟩ t ht m
      rcases Nat.lt_or_ge t (n + 1) with ht' | ht'
      · exact h t (by omega) m
      · obtain rfl : t = n + 1 := by omega
        exact h' m
    · exact fun h => ⟨fun t ht => h t (by omega), h (n + 1) le_rfl⟩

/-- The row maxima that the last point stores, before they become a column. -/
def row0 (q : FVec Ideal S1024x16 .bf16) (x : FVec Ideal S16x1000000 .bf16) (d : FVec Ideal S16x8192 .bf16) : FVec Ideal S1024 .f32 :=
  multiReduction .maximumf [1] S1024
    (select (cmpf .ogt (lastBlk q x d) (runMax q x 121))
      (lastBlk q x d) (runMax q x 121))
    0xFF800000#32 reduces_S1024x128_S1024 (.inl rfl) rfl

theorem val0_eq (q : FVec Ideal S1024x16 .bf16) (x : FVec Ideal S16x1000000 .bf16) (d : FVec Ideal S16x8192 .bf16) :
    val0 (F := Ideal) q x d = shapeCast S1024x1 (row0 q x d) shapeCasts_S1024_S1024x1 := rfl

/-- The first call's row maxima are the scores' least upper bounds. -/
theorem row0_le (q : FVec Ideal S1024x16 .bf16) (x : FVec Ideal S16x1000000 .bf16) (d : FVec Ideal S16x8192 .bf16) (j : S1024.Idx) (c : EReal) :
    (row0 q x d j : EReal) ≤ c ↔ ∀ k, score q x (j 0) k ≤ c := by
  refine (row_le _ _ _ _ j c).trans ?_
  have key : ∀ l : Fin 128, (select (cmpf .ogt (lastBlk q x d) (runMax q x 121))
      (lastBlk q x d) (runMax q x 121) (at2 (j 0) l) : EReal) ≤ c
      ↔ (∀ t ≤ 121, ∀ m : Fin 64, Below q x (j 0) c (t * 8192 + (128 * m.val + l.val))) ∧ ∀ m : Fin 64, Below q x (j 0) c (122 * 8192 + (128 * m.val + l.val)) := by
    intro l
    have e : lastBlk q x d = rest.foldl (fun a n => maximumf a (masked q (chunk (kblk0 (F := Ideal) x d (pt0 122))) n)) (masked q (chunk (kblk0 (F := Ideal) x d (pt0 122))) 0) := (lastBlock_eq q _).trans (by rw [keepFirst_eq]; rfl)
    rw [acc_le, scr0_le q x (j 0) l c 121 (by omega), e, fold_le]
    refine and_congr_right fun _ => ⟨?_, fun h => ⟨(masked_le q x d 0 _ l c).2 (h 0), fun n _ => (masked_le q x d n _ l c).2 (h n)⟩⟩
    rintro ⟨h0, h⟩ m
    refine (masked_le q x d m _ l c).1 ?_
    rcases chunks_cover m with rfl | hm
    · exact h0
    · exact h m hm
  constructor
  · intro h k
    have hk := k.isLt
    have hl := (key ⟨k.val % 128, by omega⟩).1 (h _)
    have e : k.val = k.val / 8192 * 8192 + (128 * (k.val % 8192 / 128) + k.val % 128) := by omega
    rcases Nat.lt_or_ge k.val (122 * 8192) with h' | h'
    · have := hl.1 (k.val / 8192) (by omega) ⟨k.val % 8192 / 128, by omega⟩
      exact this.congr_key k e.symm
    · have := hl.2 ⟨k.val % 8192 / 128, by omega⟩
      exact this.congr_key k (by show 122 * 8192 + (128 * (k.val % 8192 / 128) + k.val % 128) = k.val; omega)
  · intro h l
    exact (key l).2 ⟨fun t _ m h' => h ⟨_, h'⟩, fun m h' => h ⟨_, h'⟩⟩

end Cert.KProof
end
-- ==== Proof.Value2.lean ====
/- What the third call stores as its row maxima. -/
module

public import proofs.«01_k».proof.Proof.Value

@[expose] public section

set_option maxRecDepth 16384

noncomputable section

namespace Cert.KProof

open Cert.KernelIdeal Cert.KernelIdeal.Gen
open Idealize.ShloMosaic
open Idealize.ShloMosaic.TcCoe

/-- A block's score, as a score of its key. -/
theorem full_apply (q : FVec Ideal S1024x16 .bf16) (x : FVec Ideal S16x1000000 .bf16) (d : FVec Ideal S16x2048 .bf16) (t : Fin cfg2.N) (r : Fin 1024) (l : Fin 2048)
    (h : t.val * 2048 + l.val < 1000000) :
    (k2_pay3 (F := Ideal) q (kblk2 (F := Ideal) x d t) (at2 r l) : EReal) = score q x r ⟨t.val * 2048 + l.val, h⟩ := by
  have e : k2_pay3 (F := Ideal) q (kblk2 (F := Ideal) x d t)
      = matmul dot_S1024x16_S16x2048_S1024x2048_1_0_0_1_n_n none (shapeCast S1024x16 q shapeCasts_S1024x16_S1024x16)
          (shapeCast S16x2048 (kblk2 (F := Ideal) x d t) shapeCasts_S16x2048_S16x2048) (constant S1024x2048 .f32 0x00000000#32) := rfl
  rw [e, shapeCast_self, shapeCast_self]
  exact dot2_apply q x _ r l _ fun i => kblk2_apply x d t i l h

/-- The columns of the last block that lie inside the array. -/
theorem keepFull (l : Fin 2048) : IntOp.cmpi .slt (BitVec.ofNat 32 l.val) 576#32 = BitVec.ofBool (decide (l.val < 576)) := by
  revert l; decide +kernel

/-- A bound of a masked score, at the last point. -/
theorem fullMasked_le (q : FVec Ideal S1024x16 .bf16) (x : FVec Ideal S16x1000000 .bf16) (d : FVec Ideal S16x2048 .bf16) (r : Fin 1024) (l : Fin 2048) (c : EReal) :
    (k2_pay7 (F := Ideal) q (kblk2 (F := Ideal) x d (pt2 488)) (at2 r l) : EReal) ≤ c ↔ Below q x r c (488 * 2048 + l.val) := by
  show (if IntOp.cmpi .slt (BitVec.ofNat 32 (0 * 2048 + l.val)) 576#32 = 1 then (k2_pay3 (F := Ideal) q (kblk2 (F := Ideal) x d (pt2 488)) (at2 r l) : EReal)
    else (Scalar.ofBits (F := Ideal) .f32 0xFF800000#32 : EReal)) ≤ c ↔ _
  rw [Nat.zero_mul, Nat.zero_add, keepFull]
  by_cases h : l.val < 576
  · rw [if_pos (by simp [h]), full_apply q x d (pt2 488) r l (by show 488 * 2048 + _ < _; omega)]
    exact ⟨fun h' _ => h', fun h' => h' (by omega)⟩
  · rw [if_neg (by simp [h]), bot_f32]
    exact ⟨fun _ h' => absurd h' (by omega), fun _ => bot_le⟩

/-- The running maximum after point `n`. -/
def fullMax (q : FVec Ideal S1024x16 .bf16) (x : FVec Ideal S16x1000000 .bf16) (n : ℕ) : FVec Ideal S1024x2048 .f32 := (scr2 (F := Ideal) q x n).1

/-- The running maximum after a point whose block lies inside the array. -/
theorem fullStep_le (q : FVec Ideal S1024x16 .bf16) (x : FVec Ideal S16x1000000 .bf16) (d : FVec Ideal S16x2048 .bf16) (t : Fin cfg2.N) (ht : t.val < 488) (A : FVec Ideal S1024x2048 .f32)
    (r : Fin 1024) (l : Fin 2048) (c : EReal) :
    (k2_pay5 (F := Ideal) q (kblk2 (F := Ideal) x d t) A A (at2 r l) : EReal) ≤ c ↔ (A (at2 r l) : EReal) ≤ c ∧ Below q x r c (t.val * 2048 + l.val) := by
  have e : k2_pay5 (F := Ideal) q (kblk2 (F := Ideal) x d t) A A
      = shapeCast S1024x2048 (select (cmpf .ogt (k2_pay3 (F := Ideal) q (kblk2 (F := Ideal) x d t)) A) (k2_pay3 (F := Ideal) q (kblk2 (F := Ideal) x d t)) A) shapeCasts_S1024x2048_S1024x2048 := rfl
  have h : t.val * 2048 + l.val < 1000000 := by omega
  rw [e, shapeCast_self, acc_le, full_apply q x d t r l h]
  exact and_congr_right fun _ => ⟨fun h' _ => h', fun h' => h' h⟩

/-- The running maximum after point `n` bounds just the scores seen so far. -/
theorem scr2_le (q : FVec Ideal S1024x16 .bf16) (x : FVec Ideal S16x1000000 .bf16) (r : Fin 1024) (l : Fin 2048) (c : EReal) (n : ℕ) (hn : n < 488) :
    (fullMax q x n (at2 r l) : EReal) ≤ c ↔ ∀ t ≤ n, Below q x r c (t * 2048 + l.val) := by
  induction n with
  | zero =>
    refine (fullStep_le q x (none2 (F := Ideal)) (pt2 0) (by decide) _ r l c).trans ?_
    have hb : (k2_pay1 (F := Ideal) (at2 r l) : EReal) ≤ c := (show _ = (⊥ : EReal) from bot_f32).trans_le bot_le
    constructor
    · rintro ⟨-, h⟩ t ht
      obtain rfl : t = 0 := by omega
      exact h
    · exact fun h => ⟨hb, h 0 le_rfl⟩
  | succ n ih =>
    have hv : (pt2 (n + 1)).val = n + 1 := Nat.mod_eq_of_lt (by omega)
    have e : fullMax q x (n + 1) = k2_pay5 (F := Ideal) q (kblk2 (F := Ideal) x (none2 (F := Ideal)) (pt2 (n + 1))) (fullMax q x n) (fullMax q x n) := by
      unfold fullMax
      rw [scr2, if_pos hn]
    rw [e, fullStep_le q x (none2 (F := Ideal)) (pt2 (n + 1)) (by omega), ih (by omega), hv]
    constructor
    · rintro ⟨h, h'⟩ t ht
      rcases Nat.lt_or_ge t (n + 1) with ht' | ht'
      · exact h t (by omega)
      · obtain rfl : t = n + 1 := by omega
        exact h'
    · exact fun h => ⟨fun t ht => h t (by omega), h (n + 1) le_rfl⟩

/-- The row maxima that the last point stores, before they become a column. -/
def row2 (q : FVec Ideal S1024x16 .bf16) (x : FVec Ideal S16x1000000 .bf16) (d : FVec Ideal S16x2048 .bf16) : FVec Ideal S1024 .f32 :=
  multiReduction .maximumf [1] S1024
    (select (cmpf .ogt (k2_pay7 (F := Ideal) q (kblk2 (F := Ideal) x d (pt2 488))) (fullMax q x 487)) (k2_pay7 (F := Ideal) q (kblk2 (F := Ideal) x d (pt2 488))) (fullMax q x 487))
    0xFF800000#32 reduces_S1024x2048_S1024 (.inl rfl) rfl

theorem val2_eq (q : FVec Ideal S1024x16 .bf16) (x : FVec Ideal S16x1000000 .bf16) (d : FVec Ideal S16x2048 .bf16) :
    val2 (F := Ideal) q x d = shapeCast S1024x1 (row2 q x d) shapeCasts_S1024_S1024x1 := rfl

/-- The third call's row maxima are the scores' least upper bounds. -/
theorem row2_le (q : FVec Ideal S1024x16 .bf16) (x : FVec Ideal S16x1000000 .bf16) (d : FVec Ideal S16x2048 .bf16) (j : S1024.Idx) (c : EReal) :
    (row2 q x d j : EReal) ≤ c ↔ ∀ k, score q x (j 0) k ≤ c := by
  refine (row_le _ _ _ _ j c).trans ?_
  have key : ∀ l : Fin 2048, (select (cmpf .ogt (k2_pay7 (F := Ideal) q (kblk2 (F := Ideal) x d (pt2 488))) (fullMax q x 487)) (k2_pay7 (F := Ideal) q (kblk2 (F := Ideal) x d (pt2 488))) (fullMax q x 487) (at2 (j 0) l) : EReal) ≤ c
      ↔ (∀ t ≤ 487, Below q x (j 0) c (t * 2048 + l.val)) ∧ Below q x (j 0) c (488 * 2048 + l.val) := by
    intro l
    rw [acc_le, scr2_le q x (j 0) l c 487 (by omega)]
    exact and_congr_right fun _ => fullMasked_le q x d _ l c
  constructor
  · intro h k
    have hk := k.isLt
    have hl := (key ⟨k.val % 2048, by omega⟩).1 (h _)
    rcases Nat.lt_or_ge k.val (488 * 2048) with h' | h'
    · exact (hl.1 (k.val / 2048) (by omega)).congr_key k (by show k.val / 2048 * 2048 + k.val % 2048 = k.val; omega)
    · exact hl.2.congr_key k (by show 488 * 2048 + k.val % 2048 = k.val; omega)
  · intro h l
    exact (key l).2 ⟨fun t _ h' => h ⟨_, h'⟩, fun h' => h ⟨_, h'⟩⟩

end Cert.KProof
end
-- ==== Proof.Host.lean ====
/- What the operations between the calls compute: the normalised arguments before the first, and the result's rows after the last. -/
module

public import proofs.«01_k».proof.Proof.Frame
public import proofs.«01_k».proof.Proof.Ref

@[expose] public section

set_option maxRecDepth 16384

noncomputable section

namespace Cert.KProof

open Cert.KernelIdeal Cert.KernelIdeal.Gen

open Idealize.ShloMosaic
open Idealize.ShloMosaic.TcCoe
open Idealize.SL Idealize.SL.Sem
open Idealize.ShloMosaic.StableHlo (after)

/-- The queries of the calls: the first argument's rows at unit length. -/
def queries (A : FVec Ideal S1024x16 .f32) : FVec Ideal S1024x16 .bf16 := truncf .bf16 (KRef.docN (F := Ideal) A) bitsLt_bf16_f32
/-- Their keys: the second's, transposed. -/
def keys (B : FVec Ideal S1000000x16 .f32) : FVec Ideal S16x1000000 .bf16 :=
  transpose S16x1000000 [1, 0] (truncf .bf16 (KRef.clsN (F := Ideal) B) bitsLt_bf16_f32) transposes_S1000000x16_S16x1000000_1_0

theorem pre0_ops : allOps (F := Ideal) pre0 = hostOps0 ++ (hostOps0_1 ++ (hostOps0_2 ++ (hostOps0_3 ++ []))) := rfl
theorem pre0_q (V : Valuation τ sig (Elt Ideal)) : after (allOps pre0) V (main_v5 : DevRef τ sig) = queries (V (main_arg0 : DevRef τ sig)) := by
  rw [pre0_ops]
  simp only [hostOps0, hostOps0_1, hostOps0_2, hostOps0_3, List.cons_append, List.nil_append, List.append_nil]
  after_results
  rfl
theorem pre0_x (V : Valuation τ sig (Elt Ideal)) : after (allOps pre0) V (main_v12 : DevRef τ sig) = keys (V (main_arg1 : DevRef τ sig)) := by
  rw [pre0_ops]
  simp only [hostOps0, hostOps0_1, hostOps0_2, hostOps0_3, List.cons_append, List.nil_append, List.append_nil]
  after_results
  rfl
theorem keep_row (V : Valuation τ sig (Elt Ideal)) :
    after keepOps V (main_v44_0 : DevRef τ sig) = shapeCast S1024 (V (main_v13_0 : DevRef τ sig)) shapeCasts_S1024x1_S1024 := by
  after_results
  rfl
theorem full_row (V : Valuation τ sig (Elt Ideal)) :
    after fullOps V (main_v44_0 : DevRef τ sig) = shapeCast S1024 (V (main_case0b1_v45_0 : DevRef τ sig)) shapeCasts_S1024x1_S1024 := by
  after_results
  rfl

end Cert.KProof
end
-- ==== Proof.ValueRef.lean ====
/- The reference's row maximum, by the scores that the calls see. -/
module

public import proofs.«01_k».proof.Proof.Value
public import proofs.«01_k».proof.Proof.Host

@[expose] public section

set_option maxRecDepth 16384

noncomputable section

namespace Cert.KProof

open Cert.KernelIdeal Cert.KernelIdeal.Gen
open Idealize.ShloMosaic
open Idealize.ShloMosaic.TcCoe

/-- A similarity of the reference is the score of the same row and key: a rounding changes nothing here. -/
theorem sims_apply (A : FVec Ideal S1024x16 .f32) (B : FVec Ideal S1000000x16 .f32) (r : Fin 1024) (k : Fin 1000000) :
    (KRef.simsR (F := Ideal) A B (at2 r k) : EReal) = score (queries A) (keys B) r k := by
  unfold KRef.simsR Host.dotGeneral
  refine Eq.trans (α := EReal) (Ideal.dotGeneral_apply _ _ _ _ _ _) ?_
  show (∑ i : (DotDims.plain 1024 16 1000000).contr.Idx, _ : EReal) = _
  refine Finset.sum_congr (M := EReal) rfl fun i _ => ?_
  have e1 : Cert.ReferenceIdeal.dot_S1024x16_S16x1000000_S1024x1000000_1_0_0_1_n_n.lhsIdx (at2 r k) i = (DotDims.plain 1024 16 1000000).lhsIdx (at2 r k) i := at2_ext rfl rfl
  have e2 : Cert.ReferenceIdeal.dot_S1024x16_S16x1000000_S1024x1000000_1_0_0_1_n_n.rhsIdx (at2 r k) i = (DotDims.plain 1024 16 1000000).rhsIdx (at2 r k) i := at2_ext rfl rfl
  rw [e1, e2]
  unfold queries keys
  generalize KRef.docN (F := Ideal) A = D
  generalize KRef.clsN (F := Ideal) B = K
  generalize (DotDims.plain 1024 16 1000000).lhsIdx (at2 r k) i = a
  generalize (DotDims.plain 1024 16 1000000).rhsIdx (at2 r k) i = b
  rfl

theorem rows_reduce : (⟨2, ![1024, 1000000]⟩ : Shape).Reduces [1] ⟨1, ![1024]⟩ := by decide

/-- A bound of the reference's row maximum bounds every score of the row. -/
theorem valR_le (A : FVec Ideal S1024x16 .f32) (B : FVec Ideal S1000000x16 .f32) (j : S1024.Idx) (c : EReal) :
    (KRef.valR (F := Ideal) A B j : EReal) ≤ c ↔ ∀ k, score (queries A) (keys B) (j 0) k ≤ c := by
  unfold KRef.valR
  rw [show Host.reduce FloatOps.maximumf (KRef.simsR (F := Ideal) A B) (constant Cert.ReferenceIdeal.S_ .f32 0xFF800000#32)
      Cert.ReferenceIdeal.Gen.reducesTo_S1024x1000000_S1024_d1 Cert.ReferenceIdeal.Gen.h_S_ j = _
    from Host.reduce_eq_fold_single FloatOps.maximumf (KRef.simsR (F := Ideal) A B) _ _ rows_reduce _ j]
  refine (Finset.fold_max_le (α := Fin 1000000) (β := EReal) (b := _) (f := _) (s := Finset.univ) c).trans ?_
  have e : ∀ l : Fin 1000000, rows_reduce.lift j l = at2 (j 0) l := fun l => at2_ext rfl rfl
  have e' : ∀ l : Fin 1000000, (KRef.simsR (F := Ideal) A B (rows_reduce.lift j l) : EReal) = score (queries A) (keys B) (j 0) l :=
    fun l => (congrArg (fun i => (KRef.simsR (F := Ideal) A B i : EReal)) (e l)).trans (sims_apply A B (j 0) l)
  constructor
  · intro h' l
    exact (e' l).symm.trans_le (h'.2 l (Finset.mem_univ _))
  · intro h'
    refine ⟨?_, fun l _ => (e' l).trans_le (h' l)⟩
    exact (show _ = (⊥ : EReal) from bot_f32).trans_le bot_le

end Cert.KProof
end
-- ==== Proof.End.lean ====
/- The kernel's first result: the reference's row maxima, whichever arm of the branch is taken. -/
module

public import proofs.«01_k».proof.Proof.Exit
public import proofs.«01_k».proof.Proof.Value0
public import proofs.«01_k».proof.Proof.Value2
public import proofs.«01_k».proof.Proof.ValueRef

@[expose] public section

set_option maxRecDepth 16384

noncomputable section

namespace Cert.KProof

open Cert.KernelIdeal Cert.KernelIdeal.Gen

open Idealize.ShloMosaic
open Idealize.ShloMosaic.TcCoe
open Idealize.SL Idealize.SL.RA Idealize.SL.Sem
open Idealize.ShloMosaic.StableHlo (after)
open Idealize.ShloMosaic.Pipeline (arrRef ucRefs pin)

/-- Two rows of maxima with the same bounds are the same row. -/
theorem rows_eq (f g : FVec Ideal S1024 .f32) (h : ∀ j (c : EReal), (f j : EReal) ≤ c ↔ (g j : EReal) ≤ c) : f = g :=
  funext fun j => le_antisymm (α := EReal) ((h j (g j)).mpr le_rfl) ((h j (f j)).mp le_rfl)

theorem result0 (A : FVec Ideal S1024x16 .f32) (B : FVec Ideal S1000000x16 .f32) (d) :
    shapeCast S1024 (val0 (F := Ideal) (queries A) (keys B) d) shapeCasts_S1024x1_S1024 = KRef.valR (F := Ideal) A B := by
  rw [val0_eq, shapeCast_shapeCast]
  exact rows_eq _ _ fun j c => (row0_le _ _ _ j c).trans (valR_le A B j c).symm
theorem result2 (A : FVec Ideal S1024x16 .f32) (B : FVec Ideal S1000000x16 .f32) (d) :
    shapeCast S1024 (val2 (F := Ideal) (queries A) (keys B) d) shapeCasts_S1024x1_S1024 = KRef.valR (F := Ideal) A B := by
  rw [val2_eq, shapeCast_shapeCast]
  exact rows_eq _ _ fun j c => (row2_le _ _ _ j c).trans (valR_le A B j c).symm

/-- What the value argument carries from item to item: the calls' inputs. -/
structure Inputs (A : FVec Ideal S1024x16 .f32) (B : FVec Ideal S1000000x16 .f32) (V : Valuation τ sig (Elt Ideal)) : Prop where
  q : V (main_v5 : DevRef τ sig) = queries A
  x : V (main_v12 : DevRef τ sig) = keys B

/-- … and, once the first call has run, its maxima. -/
structure Maxima (A : FVec Ideal S1024x16 .f32) (B : FVec Ideal S1000000x16 .f32) (V : Valuation τ sig (Elt Ideal)) : Prop extends Inputs A B V where
  v : ∃ d, V (main_v13_0 : DevRef τ sig) = val0 (F := Ideal) (queries A) (keys B) d

theorem Maxima.of_kept {A : FVec Ideal S1024x16 .f32} {B : FVec Ideal S1000000x16 .f32} {V V' : Valuation τ sig (Elt Ideal)} (h : Maxima A B V)
    (hq : V' (main_v5 : DevRef τ sig) = V (main_v5 : DevRef τ sig)) (hx : V' (main_v12 : DevRef τ sig) = V (main_v12 : DevRef τ sig))
    (hv : V' (main_v13_0 : DevRef τ sig) = V (main_v13_0 : DevRef τ sig)) : Maxima A B V' :=
  ⟨⟨hq.trans h.q, hx.trans h.x⟩, h.v.imp fun _ e => hv.trans e⟩

theorem maxima_call0 {A : FVec Ideal S1024x16 .f32} {B : FVec Ideal S1000000x16 .f32} {V V' : Valuation τ sig (Elt Ideal)} (c : Dev nD) (h : Inputs A B V)
    (hA : After 0 (rdV (U := UU) V) c V V') : Maxima A B V' := by
  obtain ⟨d, hd⟩ := exit0 V V' c hA
  rw [h.q, h.x] at hd
  exact ⟨⟨(kept0_q V V' c hA).trans h.q, (kept0_x V V' c hA).trans h.x⟩, d, hd⟩

variable (m : (ℓ : Loc nD τ sig) → Buf (Elt Ideal) ℓ)

/-- The first result at the end of a run. -/
theorem know6_val (c : Dev nD) (V : Valuation τ sig (Elt Ideal)) (hV : know6 m c V) :
    V (main_v44_0 : DevRef τ sig) = KRef.valR (F := Ideal) (m (c, (main_arg0 : DevRef τ sig))) (m (c, (main_arg1 : DevRef τ sig))) := by
  have h1 : ∀ V, know1 m c V → Inputs (m (c, (main_arg0 : DevRef τ sig))) (m (c, (main_arg1 : DevRef τ sig))) V := fun V hV => by
    obtain ⟨V0, rfl, rfl⟩ := afterAll_out _ _ hV
    exact ⟨pre0_q _, pre0_x _⟩
  have h2 : ∀ V, know2 m c V → Maxima (m (c, (main_arg0 : DevRef τ sig))) (m (c, (main_arg1 : DevRef τ sig))) V := fun V hV => by
    obtain ⟨V0, h0, hA⟩ := hV
    exact maxima_call0 c (h1 V0 h0) hA
  have h3 : ∀ V, know3 m c V → Maxima (m (c, (main_arg0 : DevRef τ sig))) (m (c, (main_arg1 : DevRef τ sig))) V := fun V hV => by
    obtain ⟨V0, h0, rfl⟩ := afterAll_out _ _ hV
    exact (h2 V0 h0).of_kept (pre1_off _ main_v5 (by decide)) (pre1_off _ main_v12 (by decide)) (pre1_off _ main_v13_0 (by decide))
  have h4 : ∀ V, know4 m c V → Maxima (m (c, (main_arg0 : DevRef τ sig))) (m (c, (main_arg1 : DevRef τ sig))) V := fun V hV => by
    obtain ⟨V0, h0, hA⟩ := hV
    exact (h3 V0 h0).of_kept (kept1_q V0 V c hA) (kept1_x V0 V c hA) (kept1_v V0 V c hA)
  have h5 : ∀ V, know5 m c V → Maxima (m (c, (main_arg0 : DevRef τ sig))) (m (c, (main_arg1 : DevRef τ sig))) V := fun V hV => by
    obtain ⟨V0, h0, rfl⟩ := afterAll_out _ _ hV
    exact (h4 V0 h0).of_kept (pre2_off _ main_v5 (by decide)) (pre2_off _ main_v12 (by decide)) (pre2_off _ main_v13_0 (by decide))
  have h5' : ∀ V, know5 m c V → Maxima (m (c, (main_arg0 : DevRef τ sig))) (m (c, (main_arg1 : DevRef τ sig))) (after [rdOp] V) := fun V hV =>
    (h5 V hV).of_kept (read_off _ main_v5 (by decide)) (read_off _ main_v12 (by decide)) (read_off _ main_v13_0 (by decide))
  rcases hV with ⟨V1, ⟨⟨V0, h0, rfl⟩, -⟩, rfl⟩ | ⟨V2, ⟨V1, ⟨⟨V0, h0, rfl⟩, -⟩, hA⟩, rfl⟩
  · obtain ⟨d, hd⟩ := (h5' V0 h0).v
    rw [keep_row, hd]
    exact result0 _ _ d
  · obtain ⟨d, hd⟩ := exit2 _ V2 c hA
    rw [(h5' V0 h0).q, (h5' V0 h0).x] at hd
    rw [full_row, hd]
    exact result2 _ _ d

/-- From any memory the kernel ends with the reference's row maxima, its arguments as they were. -/
theorem run_value (g : Dev nD → PrngReg) : θ_run (defs (F := Ideal)) (onTc (τ := τ) (main (F := Ideal))) ⟨m, fun _ => 0, g⟩ (fun r => ∀ c : Dev nD,
      r.2.mem ((c.tc : Thread nD τ).loc main_v44_0) = KRef.valR (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨V, hV, hb⟩ := h.1 c
    exact ⟨(hb _ (top_mem (b := main_v44_0) (by decide))).trans (know6_val m c V hV),
      (hb _ (top_mem (by decide))).trans (know6_off m main_arg0 arg0_off c V hV),
      (hb _ (top_mem (by decide))).trans (know6_off m main_arg1 arg1_off c V hV)⟩) (run_main m g)

end Cert.KProof
end
-- ==== Proof.lean ====
/- The claims of this certificate, proved: the frames of the kernel, of the kernel read over the extended reals and of the reference, that reading the kernel so rewrote nothing, and that over the extended reals kernel and reference end with the same row maxima. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.Twin.Frame
public import proofs.«01_k».proof.Proof.Ref
public import proofs.«01_k».proof.Proof.End
public import Idealize.ShloMosaic.Adequacy
public import Idealize.ShloMosaic.Init

@[expose] public section

noncomputable section

namespace Cert.Proof

open Idealize.ShloMosaic Idealize.SL.Sem

theorem frame_kernel : Cert.quiescent_Kernel := fun m g _ => Cert.KTwin.frame_all m g

theorem frame_ideal : Cert.quiescent_KernelIdeal := fun m g _ => Cert.KProof.frame_all m g

theorem frame_reference : Cert.quiescent_ReferenceIdeal := Cert.KRef.frame_all

theorem same_values : Cert.algebraic_KernelIdeal_ReferenceIdeal := fun m g m' g' _ h =>
  ⟨fun c => KRef.valR (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KProof.run_value m g,
    (θ_run Cert.ReferenceIdeal.defs _ _).mono (fun _ hr c => ⟨(hr c).1.trans (congrArg₂ (KRef.valR (F := Ideal)) (h c).1 (h c).2), (hr c).2.2⟩)
      (Cert.KRef.run_main (F := Ideal) m' g')⟩

theorem claim : Cert.Claim := ⟨Cert.Kernel.Gen.facts, Cert.KernelIdeal.Gen.facts, Cert.ReferenceIdeal.Gen.facts, frame_kernel, frame_ideal, frame_reference, trivial, same_values⟩

end Cert.Proof
end
